-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S2x3x1024x4096 : Shape := ⟨4, ![2, 3, 1024, 4096]⟩
abbrev S2x1024x4096 : Shape := ⟨3, ![2, 1024, 4096]⟩
abbrev S1024x1024 : Shape := ⟨2, ![1024, 1024]⟩
abbrev S1024x2048 : Shape := ⟨2, ![1024, 2048]⟩
abbrev S8x128 : Shape := ⟨2, ![8, 128]⟩
abbrev S3x8x128 : Shape := ⟨3, ![3, 8, 128]⟩
abbrev S2x3x2 : Shape := ⟨3, ![2, 3, 2]⟩
abbrev S3 : Shape := ⟨1, ![3]⟩
abbrev S2 : Shape := ⟨1, ![2]⟩
abbrev S_ : Shape := ⟨0, ![]⟩
abbrev S1 : Shape := ⟨1, ![1]⟩
abbrev S1x1024x2048 : Shape := ⟨3, ![1, 1024, 2048]⟩
abbrev S1x1x1 : Shape := ⟨3, ![1, 1, 1]⟩
abbrev S1x1x1024x2048 : Shape := ⟨4, ![1, 1, 1024, 2048]⟩
abbrev S1x8x128 : Shape := ⟨3, ![1, 8, 128]⟩
abbrev S1x3x8x128 : Shape := ⟨4, ![1, 3, 8, 128]⟩
abbrev S1x1x1x1 : Shape := ⟨4, ![1, 1, 1, 1]⟩
abbrev S1024x4096 : Shape := ⟨2, ![1024, 4096]⟩
abbrev S1x1024x4096 : Shape := ⟨3, ![1, 1024, 4096]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1024x8192, .f32⟩
  | .hbm, ⟨3, _⟩ => ⟨S2x3x1024x4096, .bf16⟩
  | .hbm, ⟨4, _⟩ => ⟨S2x1024x4096, .bf16⟩
  | .local _ .vmem, ⟨0, _⟩ => ⟨S2x1024x4096, .f32⟩
  | .local _ .vmem, ⟨1, _⟩ => ⟨S1024x1024, .f32⟩
  | .local _ .vmem, ⟨2, _⟩ => ⟨S1024x2048, .f32⟩
  | .local _ .vmem, ⟨3, _⟩ => ⟨S1024x2048, .bf16⟩
  | .local _ .vmem, ⟨4, _⟩ => ⟨S8x128, .f32⟩
  | .local _ .vmem, ⟨5, _⟩ => ⟨S3x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_4 : BitVec 32 := 1#32
  let v8 : BitVec 32 := Scalar.muli v6 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_6 : BitVec 32 := 1#32
  let v10 : BitVec 32 := Scalar.muli v4 c1_i32_6
  let v11 : BitVec 32 := Scalar.addi c0_i32_7 v10
  v11.toNat
@[reducible] def k0_t1_loop : Scf.Loop 32 :=
  let c0_i32_8 : BitVec 32 := 0#32
  let c4_i32_9 : BitVec 32 := 4#32
  let v12 : BitVec 32 := Scalar.addi c0_i32_8 c4_i32_9
  let c1_i32_10 : BitVec 32 := 1#32
  ⟨c0_i32_8, v12, c1_i32_10⟩
def k0_off1 (d0 : Dev nD) (k0_t1 : Fin k0_t1_loop.trips) : Fin 2 → Nat :=
  let c0_i32_8 : BitVec 32 := 0#32
  let c1_i32_10 : BitVec 32 := 1#32
  let arg16 : BitVec 32 := Scf.iv c0_i32_8 c1_i32_10 k0_t1
  let c2_i32_155 : BitVec 32 := 2#32
  let v141 : BitVec 32 := Scalar.remsi arg16 c2_i32_155
  let c0_i32_163 : BitVec 32 := 0#32
  let v159 : BitVec 1 := Scalar.cmpi .eq v141 c0_i32_163
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_164 : BitVec 32 := 3#32
  let v160 : BitVec 32 := Scalar.addi v2 c3_i32_164
  let c0_i32_165 : BitVec 32 := 0#32
  let v161 : BitVec 32 := Scalar.subi v160 c0_i32_165
  let c4_i32_166 : BitVec 32 := 4#32
  let v162 : BitVec 32 := Scalar.addi v161 c4_i32_166
  let c4_i32_167 : BitVec 32 := 4#32
  let v163 : BitVec 32 := Scalar.remsi v162 c4_i32_167
  let c1_i32_168 : BitVec 32 := 1#32
  let v164 : BitVec 32 := Scalar.addi v2 c1_i32_168
  let c0_i32_169 : BitVec 32 := 0#32
  let v165 : BitVec 32 := Scalar.addi v164 c0_i32_169
  let c4_i32_170 : BitVec 32 := 4#32
  let v166 : BitVec 32 := Scalar.remsi v165 c4_i32_170
  let v167 : BitVec 32 := Scalar.select v159 v163 v166
  let c1024_i32_171 : BitVec 32 := 1024#32
  let v168 : BitVec 32 := Scalar.muli v167 c1024_i32_171
  let c0_i32_173 : BitVec 32 := 0#32
  ![v168.toNat, 0]
def k0_off2 (k0_t1 : Fin k0_t1_loop.trips) : Fin 2 → Nat :=
  let c0_i32_178 : BitVec 32 := 0#32
  let c0_i32_8 : BitVec 32 := 0#32
  let c1_i32_10 : BitVec 32 := 1#32
  let arg16 : BitVec 32 := Scf.iv c0_i32_8 c1_i32_10 k0_t1
  let c2_i32_155 : BitVec 32 := 2#32
  let v141 : BitVec 32 := Scalar.remsi arg16 c2_i32_155
  let c4096_i32_176 : BitVec 32 := 4096#32
  let v175 : BitVec 32 := Scalar.muli v141 c4096_i32_176
  let c0_i32_157 : BitVec 32 := 0#32
  let v143 : BitVec 1 := Scalar.cmpi .sgt arg16 c0_i32_157
  let v144 : BitVec 32 := Scalar.extui v143
  let c0_i32_158 : BitVec 32 := 0#32
  let v145 : BitVec 1 := Scalar.cmpi .slt arg16 c0_i32_158
  let v146 : BitVec 32 := Scalar.extui v145
  let v147 : BitVec 32 := Scalar.subi v144 v146
  let c2_i32_156 : BitVec 32 := 2#32
  let c0_i32_159 : BitVec 32 := 0#32
  let v148 : BitVec 1 := Scalar.cmpi .sgt c2_i32_156 c0_i32_159
  let v149 : BitVec 32 := Scalar.extui v148
  let c0_i32_160 : BitVec 32 := 0#32
  let v150 : BitVec 1 := Scalar.cmpi .slt c2_i32_156 c0_i32_160
  let v151 : BitVec 32 := Scalar.extui v150
  let v152 : BitVec 32 := Scalar.subi v149 v151
  let v153 : BitVec 1 := Scalar.cmpi .ne v147 v152
  let v154 : BitVec 32 := Scalar.remsi arg16 c2_i32_156
  let c0_i32_161 : BitVec 32 := 0#32
  let v155 : BitVec 1 := Scalar.cmpi .ne v154 c0_i32_161
  let v156 : BitVec 1 := Scalar.andi v153 v155
  let v142 : BitVec 32 := Scalar.divsi arg16 c2_i32_156
  let c1_i32_162 : BitVec 32 := 1#32
  let v157 : BitVec 32 := Scalar.subi v142 c1_i32_162
  let v158 : BitVec 32 := Scalar.select v156 v157 v142
  let c2048_i32 : BitVec 32 := 2048#32
  let v176 : BitVec 32 := Scalar.muli v158 c2048_i32
  let v177 : BitVec 32 := Scalar.addi v175 v176
  ![0, v177.toNat]
def k0_off3 (k0_t1 : Fin k0_t1_loop.trips) : Fin 3 → Nat :=
  let c0_i32_8 : BitVec 32 := 0#32
  let c1_i32_10 : BitVec 32 := 1#32
  let arg16 : BitVec 32 := Scf.iv c0_i32_8 c1_i32_10 k0_t1
  let c2_i32_155 : BitVec 32 := 2#32
  let v141 : BitVec 32 := Scalar.remsi arg16 c2_i32_155
  let c0_i32_190 : BitVec 32 := 0#32
  let c0_i32_157 : BitVec 32 := 0#32
  let v143 : BitVec 1 := Scalar.cmpi .sgt arg16 c0_i32_157
  let v144 : BitVec 32 := Scalar.extui v143
  let c0_i32_158 : BitVec 32 := 0#32
  let v145 : BitVec 1 := Scalar.cmpi .slt arg16 c0_i32_158
  let v146 : BitVec 32 := Scalar.extui v145
  let v147 : BitVec 32 := Scalar.subi v144 v146
  let c2_i32_156 : BitVec 32 := 2#32
  let c0_i32_159 : BitVec 32 := 0#32
  let v148 : BitVec 1 := Scalar.cmpi .sgt c2_i32_156 c0_i32_159
  let v149 : BitVec 32 := Scalar.extui v148
  let c0_i32_160 : BitVec 32 := 0#32
  let v150 : BitVec 1 := Scalar.cmpi .slt c2_i32_156 c0_i32_160
  let v151 : BitVec 32 := Scalar.extui v150
  let v152 : BitVec 32 := Scalar.subi v149 v151
  let v153 : BitVec 1 := Scalar.cmpi .ne v147 v152
  let v154 : BitVec 32 := Scalar.remsi arg16 c2_i32_156
  let c0_i32_161 : BitVec 32 := 0#32
  let v155 : BitVec 1 := Scalar.cmpi .ne v154 c0_i32_161
  let v156 : BitVec 1 := Scalar.andi v153 v155
  let v142 : BitVec 32 := Scalar.divsi arg16 c2_i32_156
  let c1_i32_162 : BitVec 32 := 1#32
  let v157 : BitVec 32 := Scalar.subi v142 c1_i32_162
  let v158 : BitVec 32 := Scalar.select v156 v157 v142
  let c2048_i32_188 : BitVec 32 := 2048#32
  let v191 : BitVec 32 := Scalar.muli v158 c2048_i32_188
  ![v141.toNat, 0, v191.toNat]
def k0_off4 (k0_t1 : Fin k0_t1_loop.trips) : Fin 3 → Nat :=
  let c0_i32_8 : BitVec 32 := 0#32
  let c1_i32_10 : BitVec 32 := 1#32
  let arg16 : BitVec 32 := Scf.iv c0_i32_8 c1_i32_10 k0_t1
  let c2_i32_155 : BitVec 32 := 2#32
  let v141 : BitVec 32 := Scalar.remsi arg16 c2_i32_155
  let c0_i32_198 : BitVec 32 := 0#32
  let c0_i32_157 : BitVec 32 := 0#32
  let v143 : BitVec 1 := Scalar.cmpi .sgt arg16 c0_i32_157
  let v144 : BitVec 32 := Scalar.extui v143
  let c0_i32_158 : BitVec 32 := 0#32
  let v145 : BitVec 1 := Scalar.cmpi .slt arg16 c0_i32_158
  let v146 : BitVec 32 := Scalar.extui v145
  let v147 : BitVec 32 := Scalar.subi v144 v146
  let c2_i32_156 : BitVec 32 := 2#32
  let c0_i32_159 : BitVec 32 := 0#32
  let v148 : BitVec 1 := Scalar.cmpi .sgt c2_i32_156 c0_i32_159
  let v149 : BitVec 32 := Scalar.extui v148
  let c0_i32_160 : BitVec 32 := 0#32
  let v150 : BitVec 1 := Scalar.cmpi .slt c2_i32_156 c0_i32_160
  let v151 : BitVec 32 := Scalar.extui v150
  let v152 : BitVec 32 := Scalar.subi v149 v151
  let v153 : BitVec 1 := Scalar.cmpi .ne v147 v152
  let v154 : BitVec 32 := Scalar.remsi arg16 c2_i32_156
  let c0_i32_161 : BitVec 32 := 0#32
  let v155 : BitVec 1 := Scalar.cmpi .ne v154 c0_i32_161
  let v156 : BitVec 1 := Scalar.andi v153 v155
  let v142 : BitVec 32 := Scalar.divsi arg16 c2_i32_156
  let c1_i32_162 : BitVec 32 := 1#32
  let v157 : BitVec 32 := Scalar.subi v142 c1_i32_162
  let v158 : BitVec 32 := Scalar.select v156 v157 v142
  ![v141.toNat, 0, v158.toNat]
def k0_off5 (k0_t1 : Fin k0_t1_loop.trips) : Fin 4 → Nat :=
  let c0_i32_8 : BitVec 32 := 0#32
  let c1_i32_10 : BitVec 32 := 1#32
  let arg16 : BitVec 32 := Scf.iv c0_i32_8 c1_i32_10 k0_t1
  let c2_i32_155 : BitVec 32 := 2#32
  let v141 : BitVec 32 := Scalar.remsi arg16 c2_i32_155
  let c0_i32_196 : BitVec 32 := 0#32
  let c0_i32_201 : BitVec 32 := 0#32
  let c0_i32_157 : BitVec 32 := 0#32
  let v143 : BitVec 1 := Scalar.cmpi .sgt arg16 c0_i32_157
  let v144 : BitVec 32 := Scalar.extui v143
  let c0_i32_158 : BitVec 32 := 0#32
  let v145 : BitVec 1 := Scalar.cmpi .slt arg16 c0_i32_158
  let v146 : BitVec 32 := Scalar.extui v145
  let v147 : BitVec 32 := Scalar.subi v144 v146
  let c2_i32_156 : BitVec 32 := 2#32
  let c0_i32_159 : BitVec 32 := 0#32
  let v148 : BitVec 1 := Scalar.cmpi .sgt c2_i32_156 c0_i32_159
  let v149 : BitVec 32 := Scalar.extui v148
  let c0_i32_160 : BitVec 32 := 0#32
  let v150 : BitVec 1 := Scalar.cmpi .slt c2_i32_156 c0_i32_160
  let v151 : BitVec 32 := Scalar.extui v150
  let v152 : BitVec 32 := Scalar.subi v149 v151
  let v153 : BitVec 1 := Scalar.cmpi .ne v147 v152
  let v154 : BitVec 32 := Scalar.remsi arg16 c2_i32_156
  let c0_i32_161 : BitVec 32 := 0#32
  let v155 : BitVec 1 := Scalar.cmpi .ne v154 c0_i32_161
  let v156 : BitVec 1 := Scalar.andi v153 v155
  let v142 : BitVec 32 := Scalar.divsi arg16 c2_i32_156
  let c1_i32_162 : BitVec 32 := 1#32
  let v157 : BitVec 32 := Scalar.subi v142 c1_i32_162
  let v158 : BitVec 32 := Scalar.select v156 v157 v142
  let c2048_i32_194 : BitVec 32 := 2048#32
  let v201 : BitVec 32 := Scalar.muli v158 c2048_i32_194
  ![v141.toNat, 0, 0, v201.toNat]
def k0_dev3 (d0 : Dev nD) (k0_t1 : Fin k0_t1_loop.trips) : Nat :=
  let c0_i32_200 : BitVec 32 := 0#32
  let c0_i32_8 : BitVec 32 := 0#32
  let c1_i32_10 : BitVec 32 := 1#32
  let arg16 : BitVec 32 := Scf.iv c0_i32_8 c1_i32_10 k0_t1
  let c2_i32_155 : BitVec 32 := 2#32
  let v141 : BitVec 32 := Scalar.remsi arg16 c2_i32_155
  let c0_i32_195 : BitVec 32 := 0#32
  let v202 : BitVec 1 := Scalar.cmpi .eq v141 c0_i32_195
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c3_i32 : BitVec 32 := 3#32
  let v5 : BitVec 32 := Scalar.addi v2 c3_i32
  let c4_i32_2 : BitVec 32 := 4#32
  let v6 : BitVec 32 := Scalar.remsi v5 c4_i32_2
  let v203 : BitVec 32 := Scalar.select v202 v4 v6
  let c1_i32_199 : BitVec 32 := 1#32
  let v204 : BitVec 32 := Scalar.muli v203 c1_i32_199
  let v205 : BitVec 32 := Scalar.addi c0_i32_200 v204
  v205.toNat
def k0_off6 (d0 : Dev nD) (true_19 : BitVec 1) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_12 : BitVec 32 := 2#32
  let v13 : BitVec 32 := Scalar.addi v2 c2_i32_12
  let c0_i32_13 : BitVec 32 := 0#32
  let v14 : BitVec 32 := Scalar.subi v13 c0_i32_13
  let c4_i32_14 : BitVec 32 := 4#32
  let v15 : BitVec 32 := Scalar.addi v14 c4_i32_14
  let c4_i32_15 : BitVec 32 := 4#32
  let v16 : BitVec 32 := Scalar.remsi v15 c4_i32_15
  let c2_i32_16 : BitVec 32 := 2#32
  let v17 : BitVec 32 := Scalar.addi v2 c2_i32_16
  let c0_i32_17 : BitVec 32 := 0#32
  let v18 : BitVec 32 := Scalar.addi v17 c0_i32_17
  let c4_i32_18 : BitVec 32 := 4#32
  let v19 : BitVec 32 := Scalar.remsi v18 c4_i32_18
  let v20 : BitVec 32 := Scalar.select true_19 v16 v19
  let c1024_i32 : BitVec 32 := 1024#32
  let v21 : BitVec 32 := Scalar.muli v20 c1024_i32
  let c0_i32_21 : BitVec 32 := 0#32
  ![v21.toNat, 0]
@[reducible] def k0_t2_loop : Scf.Loop 32 :=
  let c0_i32_24 : BitVec 32 := 0#32
  let c2_i32_25 : BitVec 32 := 2#32
  let v28 : BitVec 32 := Scalar.addi c0_i32_24 c2_i32_25
  let c1_i32_26 : BitVec 32 := 1#32
  ⟨c0_i32_24, v28, c1_i32_26⟩
def k0_off7 (k0_t2 : Fin k0_t2_loop.trips) : Fin 2 → Nat :=
  let c0_i32_157 : BitVec 32 := 0#32
  let c0_i32_155 : BitVec 32 := 0#32
  let c0_i32_24 : BitVec 32 := 0#32
  let c1_i32_26 : BitVec 32 := 1#32
  let arg16 : BitVec 32 := Scf.iv c0_i32_24 c1_i32_26 k0_t2
  let c2048_i32 : BitVec 32 := 2048#32
  let v141 : BitVec 32 := Scalar.muli arg16 c2048_i32
  let v142 : BitVec 32 := Scalar.addi c0_i32_155 v141
  ![0, v142.toNat]
def k0_off8 (k0_t2 : Fin k0_t2_loop.trips) : Fin 3 → Nat :=
  let c0_166 : Index := 0#32
  let c0_167 : Index := 0#32
  let c0_i32_24 : BitVec 32 := 0#32
  let c1_i32_26 : BitVec 32 := 1#32
  let arg16 : BitVec 32 := Scf.iv c0_i32_24 c1_i32_26 k0_t2
  let c2048_i32_165 : BitVec 32 := 2048#32
  let v152 : BitVec 32 := Scalar.muli arg16 c2048_i32_165
  let v153 : Index := Scalar.indexCast v152
  ![0, 0, v153.toNat]
@[reducible] def k0_t3_loop : Scf.Loop 32 :=
  let c0_i32_40 : BitVec 32 := 0#32
  let c2_i32_41 : BitVec 32 := 2#32
  let v44 : BitVec 32 := Scalar.addi c0_i32_40 c2_i32_41
  let c1_i32_42 : BitVec 32 := 1#32
  ⟨c0_i32_40, v44, c1_i32_42⟩
def k0_off9 (k0_t3 : Fin k0_t3_loop.trips) : Fin 2 → Nat :=
  let c0_i32_157 : BitVec 32 := 0#32
  let c4096_i32_155 : BitVec 32 := 4096#32
  let c0_i32_40 : BitVec 32 := 0#32
  let c1_i32_42 : BitVec 32 := 1#32
  let arg16 : BitVec 32 := Scf.iv c0_i32_40 c1_i32_42 k0_t3
  let c2048_i32 : BitVec 32 := 2048#32
  let v141 : BitVec 32 := Scalar.muli arg16 c2048_i32
  let v142 : BitVec 32 := Scalar.addi c4096_i32_155 v141
  ![0, v142.toNat]
def k0_off10 (k0_t3 : Fin k0_t3_loop.trips) : Fin 3 → Nat :=
  let c1 : Index := 1#32
  let c0_166 : Index := 0#32
  let c0_i32_40 : BitVec 32 := 0#32
  let c1_i32_42 : BitVec 32 := 1#32
  let arg16 : BitVec 32 := Scf.iv c0_i32_40 c1_i32_42 k0_t3
  let c2048_i32_165 : BitVec 32 := 2048#32
  let v152 : BitVec 32 := Scalar.muli arg16 c2048_i32_165
  let v153 : Index := Scalar.indexCast v152
  ![1, 0, v153.toNat]
@[reducible] def k0_t4_loop : Scf.Loop 32 :=
  let c0_i32_44 : BitVec 32 := 0#32
  let c2_i32_45 : BitVec 32 := 2#32
  let v45 : BitVec 32 := Scalar.addi c0_i32_44 c2_i32_45
  let c1_i32_46 : BitVec 32 := 1#32
  ⟨c0_i32_44, v45, c1_i32_46⟩
@[reducible] def k0_t5_loop : Scf.Loop 32 :=
  let c0_i32_155 : BitVec 32 := 0#32
  let c4_i32_156 : BitVec 32 := 4#32
  let v141 : BitVec 32 := Scalar.addi c0_i32_155 c4_i32_156
  let c1_i32_157 : BitVec 32 := 1#32
  ⟨c0_i32_155, v141, c1_i32_157⟩
def k0_off11 (k0_t4 : Fin k0_t4_loop.trips) (k0_t5 : Fin k0_t5_loop.trips) : Fin 3 → Nat :=
  let c0_i32_155 : BitVec 32 := 0#32
  let c1_i32_157 : BitVec 32 := 1#32
  let arg17 : BitVec 32 := Scf.iv c0_i32_155 c1_i32_157 k0_t5
  let c2_i32_190 : BitVec 32 := 2#32
  let v175 : BitVec 32 := Scalar.remsi arg17 c2_i32_190
  let c0_i32_44 : BitVec 32 := 0#32
  let c1_i32_46 : BitVec 32 := 1#32
  let arg16 : BitVec 32 := Scf.iv c0_i32_44 c1_i32_46 k0_t4
  let c0_i32_192 : BitVec 32 := 0#32
  let v177 : BitVec 1 := Scalar.cmpi .sgt arg17 c0_i32_192
  let v178 : BitVec 32 := Scalar.extui v177
  let c0_i32_193 : BitVec 32 := 0#32
  let v179 : BitVec 1 := Scalar.cmpi .slt arg17 c0_i32_193
  let v180 : BitVec 32 := Scalar.extui v179
  let v181 : BitVec 32 := Scalar.subi v178 v180
  let c2_i32_191 : BitVec 32 := 2#32
  let c0_i32_194 : BitVec 32 := 0#32
  let v182 : BitVec 1 := Scalar.cmpi .sgt c2_i32_191 c0_i32_194
  let v183 : BitVec 32 := Scalar.extui v182
  let c0_i32_195 : BitVec 32 := 0#32
  let v184 : BitVec 1 := Scalar.cmpi .slt c2_i32_191 c0_i32_195
  let v185 : BitVec 32 := Scalar.extui v184
  let v186 : BitVec 32 := Scalar.subi v183 v185
  let v187 : BitVec 1 := Scalar.cmpi .ne v181 v186
  let v188 : BitVec 32 := Scalar.remsi arg17 c2_i32_191
  let c0_i32_196 : BitVec 32 := 0#32
  let v189 : BitVec 1 := Scalar.cmpi .ne v188 c0_i32_196
  let v190 : BitVec 1 := Scalar.andi v187 v189
  let v176 : BitVec 32 := Scalar.divsi arg17 c2_i32_191
  let c1_i32_197 : BitVec 32 := 1#32
  let v191 : BitVec 32 := Scalar.subi v176 c1_i32_197
  let v192 : BitVec 32 := Scalar.select v190 v191 v176
  ![v175.toNat, arg16.toNat, v192.toNat]
def k0_off12 (k0_t4 : Fin k0_t4_loop.trips) (k0_t5 : Fin k0_t5_loop.trips) : Fin 4 → Nat :=
  let c0_i32_155 : BitVec 32 := 0#32
  let c1_i32_157 : BitVec 32 := 1#32
  let arg17 : BitVec 32 := Scf.iv c0_i32_155 c1_i32_157 k0_t5
  let c2_i32_190 : BitVec 32 := 2#32
  let v175 : BitVec 32 := Scalar.remsi arg17 c2_i32_190
  let c0_i32_44 : BitVec 32 := 0#32
  let c1_i32_46 : BitVec 32 := 1#32
  let arg16 : BitVec 32 := Scf.iv c0_i32_44 c1_i32_46 k0_t4
  let c0_i32_202 : BitVec 32 := 0#32
  let c0_i32_192 : BitVec 32 := 0#32
  let v177 : BitVec 1 := Scalar.cmpi .sgt arg17 c0_i32_192
  let v178 : BitVec 32 := Scalar.extui v177
  let c0_i32_193 : BitVec 32 := 0#32
  let v179 : BitVec 1 := Scalar.cmpi .slt arg17 c0_i32_193
  let v180 : BitVec 32 := Scalar.extui v179
  let v181 : BitVec 32 := Scalar.subi v178 v180
  let c2_i32_191 : BitVec 32 := 2#32
  let c0_i32_194 : BitVec 32 := 0#32
  let v182 : BitVec 1 := Scalar.cmpi .sgt c2_i32_191 c0_i32_194
  let v183 : BitVec 32 := Scalar.extui v182
  let c0_i32_195 : BitVec 32 := 0#32
  let v184 : BitVec 1 := Scalar.cmpi .slt c2_i32_191 c0_i32_195
  let v185 : BitVec 32 := Scalar.extui v184
  let v186 : BitVec 32 := Scalar.subi v183 v185
  let v187 : BitVec 1 := Scalar.cmpi .ne v181 v186
  let v188 : BitVec 32 := Scalar.remsi arg17 c2_i32_191
  let c0_i32_196 : BitVec 32 := 0#32
  let v189 : BitVec 1 := Scalar.cmpi .ne v188 c0_i32_196
  let v190 : BitVec 1 := Scalar.andi v187 v189
  let v176 : BitVec 32 := Scalar.divsi arg17 c2_i32_191
  let c1_i32_197 : BitVec 32 := 1#32
  let v191 : BitVec 32 := Scalar.subi v176 c1_i32_197
  let v192 : BitVec 32 := Scalar.select v190 v191 v176
  let c2048_i32_198 : BitVec 32 := 2048#32
  let v194 : BitVec 32 := Scalar.muli v192 c2048_i32_198
  ![v175.toNat, arg16.toNat, 0, v194.toNat]
def k0_off13 (k0_t5 : Fin k0_t5_loop.trips) : Fin 3 → Nat :=
  let c0_i32_155 : BitVec 32 := 0#32
  let c1_i32_157 : BitVec 32 := 1#32
  let arg17 : BitVec 32 := Scf.iv c0_i32_155 c1_i32_157 k0_t5
  let c2_i32_190 : BitVec 32 := 2#32
  let v175 : BitVec 32 := Scalar.remsi arg17 c2_i32_190
  let c0_i32_203 : BitVec 32 := 0#32
  let c0_i32_192 : BitVec 32 := 0#32
  let v177 : BitVec 1 := Scalar.cmpi .sgt arg17 c0_i32_192
  let v178 : BitVec 32 := Scalar.extui v177
  let c0_i32_193 : BitVec 32 := 0#32
  let v179 : BitVec 1 := Scalar.cmpi .slt arg17 c0_i32_193
  let v180 : BitVec 32 := Scalar.extui v179
  let v181 : BitVec 32 := Scalar.subi v178 v180
  let c2_i32_191 : BitVec 32 := 2#32
  let c0_i32_194 : BitVec 32 := 0#32
  let v182 : BitVec 1 := Scalar.cmpi .sgt c2_i32_191 c0_i32_194
  let v183 : BitVec 32 := Scalar.extui v182
  let c0_i32_195 : BitVec 32 := 0#32
  let v184 : BitVec 1 := Scalar.cmpi .slt c2_i32_191 c0_i32_195
  let v185 : BitVec 32 := Scalar.extui v184
  let v186 : BitVec 32 := Scalar.subi v183 v185
  let v187 : BitVec 1 := Scalar.cmpi .ne v181 v186
  let v188 : BitVec 32 := Scalar.remsi arg17 c2_i32_191
  let c0_i32_196 : BitVec 32 := 0#32
  let v189 : BitVec 1 := Scalar.cmpi .ne v188 c0_i32_196
  let v190 : BitVec 1 := Scalar.andi v187 v189
  let v176 : BitVec 32 := Scalar.divsi arg17 c2_i32_191
  let c1_i32_197 : BitVec 32 := 1#32
  let v191 : BitVec 32 := Scalar.subi v176 c1_i32_197
  let v192 : BitVec 32 := Scalar.select v190 v191 v176
  let c2048_i32 : BitVec 32 := 2048#32
  let v193 : BitVec 32 := Scalar.muli v192 c2048_i32
  ![v175.toNat, 0, v193.toNat]
def k0_off14 (k0_t5 : Fin k0_t5_loop.trips) : Fin 3 → Nat :=
  let c0_i32_155 : BitVec 32 := 0#32
  let c1_i32_157 : BitVec 32 := 1#32
  let arg17 : BitVec 32 := Scf.iv c0_i32_155 c1_i32_157 k0_t5
  let c2_i32_190 : BitVec 32 := 2#32
  let v175 : BitVec 32 := Scalar.remsi arg17 c2_i32_190
  let v217 : Index := Scalar.indexCast v175
  let c0_212 : Index := 0#32
  let c0_i32_192 : BitVec 32 := 0#32
  let v177 : BitVec 1 := Scalar.cmpi .sgt arg17 c0_i32_192
  let v178 : BitVec 32 := Scalar.extui v177
  let c0_i32_193 : BitVec 32 := 0#32
  let v179 : BitVec 1 := Scalar.cmpi .slt arg17 c0_i32_193
  let v180 : BitVec 32 := Scalar.extui v179
  let v181 : BitVec 32 := Scalar.subi v178 v180
  let c2_i32_191 : BitVec 32 := 2#32
  let c0_i32_194 : BitVec 32 := 0#32
  let v182 : BitVec 1 := Scalar.cmpi .sgt c2_i32_191 c0_i32_194
  let v183 : BitVec 32 := Scalar.extui v182
  let c0_i32_195 : BitVec 32 := 0#32
  let v184 : BitVec 1 := Scalar.cmpi .slt c2_i32_191 c0_i32_195
  let v185 : BitVec 32 := Scalar.extui v184
  let v186 : BitVec 32 := Scalar.subi v183 v185
  let v187 : BitVec 1 := Scalar.cmpi .ne v181 v186
  let v188 : BitVec 32 := Scalar.remsi arg17 c2_i32_191
  let c0_i32_196 : BitVec 32 := 0#32
  let v189 : BitVec 1 := Scalar.cmpi .ne v188 c0_i32_196
  let v190 : BitVec 1 := Scalar.andi v187 v189
  let v176 : BitVec 32 := Scalar.divsi arg17 c2_i32_191
  let c1_i32_197 : BitVec 32 := 1#32
  let v191 : BitVec 32 := Scalar.subi v176 c1_i32_197
  let v192 : BitVec 32 := Scalar.select v190 v191 v176
  let c2048_i32_211 : BitVec 32 := 2048#32
  let v216 : BitVec 32 := Scalar.muli v192 c2048_i32_211
  let v218 : Index := Scalar.indexCast v216
  ![v217.toNat, 0, v218.toNat]
def k0_off15 (k0_t4 : Fin k0_t4_loop.trips) (k0_t5 : Fin k0_t5_loop.trips) : Fin 3 → Nat :=
  let c0_i32_155 : BitVec 32 := 0#32
  let c1_i32_157 : BitVec 32 := 1#32
  let arg17 : BitVec 32 := Scf.iv c0_i32_155 c1_i32_157 k0_t5
  let c2_i32_190 : BitVec 32 := 2#32
  let v175 : BitVec 32 := Scalar.remsi arg17 c2_i32_190
  let c0_i32_44 : BitVec 32 := 0#32
  let c1_i32_46 : BitVec 32 := 1#32
  let arg16 : BitVec 32 := Scf.iv c0_i32_44 c1_i32_46 k0_t4
  let c1_i32_223 : BitVec 32 := 1#32
  let v241 : BitVec 32 := Scalar.addi arg16 c1_i32_223
  let c0_i32_192 : BitVec 32 := 0#32
  let v177 : BitVec 1 := Scalar.cmpi .sgt arg17 c0_i32_192
  let v178 : BitVec 32 := Scalar.extui v177
  let c0_i32_193 : BitVec 32 := 0#32
  let v179 : BitVec 1 := Scalar.cmpi .slt arg17 c0_i32_193
  let v180 : BitVec 32 := Scalar.extui v179
  let v181 : BitVec 32 := Scalar.subi v178 v180
  let c2_i32_191 : BitVec 32 := 2#32
  let c0_i32_194 : BitVec 32 := 0#32
  let v182 : BitVec 1 := Scalar.cmpi .sgt c2_i32_191 c0_i32_194
  let v183 : BitVec 32 := Scalar.extui v182
  let c0_i32_195 : BitVec 32 := 0#32
  let v184 : BitVec 1 := Scalar.cmpi .slt c2_i32_191 c0_i32_195
  let v185 : BitVec 32 := Scalar.extui v184
  let v186 : BitVec 32 := Scalar.subi v183 v185
  let v187 : BitVec 1 := Scalar.cmpi .ne v181 v186
  let v188 : BitVec 32 := Scalar.remsi arg17 c2_i32_191
  let c0_i32_196 : BitVec 32 := 0#32
  let v189 : BitVec 1 := Scalar.cmpi .ne v188 c0_i32_196
  let v190 : BitVec 1 := Scalar.andi v187 v189
  let v176 : BitVec 32 := Scalar.divsi arg17 c2_i32_191
  let c1_i32_197 : BitVec 32 := 1#32
  let v191 : BitVec 32 := Scalar.subi v176 c1_i32_197
  let v192 : BitVec 32 := Scalar.select v190 v191 v176
  ![v175.toNat, v241.toNat, v192.toNat]
def k0_off16 (k0_t4 : Fin k0_t4_loop.trips) (k0_t5 : Fin k0_t5_loop.trips) : Fin 4 → Nat :=
  let c0_i32_155 : BitVec 32 := 0#32
  let c1_i32_157 : BitVec 32 := 1#32
  let arg17 : BitVec 32 := Scf.iv c0_i32_155 c1_i32_157 k0_t5
  let c2_i32_190 : BitVec 32 := 2#32
  let v175 : BitVec 32 := Scalar.remsi arg17 c2_i32_190
  let c0_i32_44 : BitVec 32 := 0#32
  let c1_i32_46 : BitVec 32 := 1#32
  let arg16 : BitVec 32 := Scf.iv c0_i32_44 c1_i32_46 k0_t4
  let c1_i32_223 : BitVec 32 := 1#32
  let v241 : BitVec 32 := Scalar.addi arg16 c1_i32_223
  let c0_i32_229 : BitVec 32 := 0#32
  let c0_i32_192 : BitVec 32 := 0#32
  let v177 : BitVec 1 := Scalar.cmpi .sgt arg17 c0_i32_192
  let v178 : BitVec 32 := Scalar.extui v177
  let c0_i32_193 : BitVec 32 := 0#32
  let v179 : BitVec 1 := Scalar.cmpi .slt arg17 c0_i32_193
  let v180 : BitVec 32 := Scalar.extui v179
  let v181 : BitVec 32 := Scalar.subi v178 v180
  let c2_i32_191 : BitVec 32 := 2#32
  let c0_i32_194 : BitVec 32 := 0#32
  let v182 : BitVec 1 := Scalar.cmpi .sgt c2_i32_191 c0_i32_194
  let v183 : BitVec 32 := Scalar.extui v182
  let c0_i32_195 : BitVec 32 := 0#32
  let v184 : BitVec 1 := Scalar.cmpi .slt c2_i32_191 c0_i32_195
  let v185 : BitVec 32 := Scalar.extui v184
  let v186 : BitVec 32 := Scalar.subi v183 v185
  let v187 : BitVec 1 := Scalar.cmpi .ne v181 v186
  let v188 : BitVec 32 := Scalar.remsi arg17 c2_i32_191
  let c0_i32_196 : BitVec 32 := 0#32
  let v189 : BitVec 1 := Scalar.cmpi .ne v188 c0_i32_196
  let v190 : BitVec 1 := Scalar.andi v187 v189
  let v176 : BitVec 32 := Scalar.divsi arg17 c2_i32_191
  let c1_i32_197 : BitVec 32 := 1#32
  let v191 : BitVec 32 := Scalar.subi v176 c1_i32_197
  let v192 : BitVec 32 := Scalar.select v190 v191 v176
  let c2048_i32_225 : BitVec 32 := 2048#32
  let v243 : BitVec 32 := Scalar.muli v192 c2048_i32_225
  ![v175.toNat, v241.toNat, 0, v243.toNat]
def k0_dev4 (d0 : Dev nD) (k0_t5 : Fin k0_t5_loop.trips) : Nat :=
  let c0_i32_228 : BitVec 32 := 0#32
  let c0_i32_155 : BitVec 32 := 0#32
  let c1_i32_157 : BitVec 32 := 1#32
  let arg17 : BitVec 32 := Scf.iv c0_i32_155 c1_i32_157 k0_t5
  let c2_i32_190 : BitVec 32 := 2#32
  let v175 : BitVec 32 := Scalar.remsi arg17 c2_i32_190
  let c0_i32_226 : BitVec 32 := 0#32
  let v244 : BitVec 1 := Scalar.cmpi .eq v175 c0_i32_226
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c3_i32 : BitVec 32 := 3#32
  let v5 : BitVec 32 := Scalar.addi v2 c3_i32
  let c4_i32_2 : BitVec 32 := 4#32
  let v6 : BitVec 32 := Scalar.remsi v5 c4_i32_2
  let v245 : BitVec 32 := Scalar.select v244 v4 v6
  let c1_i32_227 : BitVec 32 := 1#32
  let v246 : BitVec 32 := Scalar.muli v245 c1_i32_227
  let v247 : BitVec 32 := Scalar.addi c0_i32_228 v246
  v247.toNat
def k0_off17 (d0 : Dev nD) (k0_t4 : Fin k0_t4_loop.trips) (true_165 : BitVec 1) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_160 : BitVec 32 := 2#32
  let v143 : BitVec 32 := Scalar.addi v2 c2_i32_160
  let c0_i32_44 : BitVec 32 := 0#32
  let c1_i32_46 : BitVec 32 := 1#32
  let arg16 : BitVec 32 := Scf.iv c0_i32_44 c1_i32_46 k0_t4
  let c1_i32_159 : BitVec 32 := 1#32
  let v142 : BitVec 32 := Scalar.addi arg16 c1_i32_159
  let v144 : BitVec 32 := Scalar.subi v143 v142
  let c4_i32_161 : BitVec 32 := 4#32
  let v145 : BitVec 32 := Scalar.addi v144 c4_i32_161
  let c4_i32_162 : BitVec 32 := 4#32
  let v146 : BitVec 32 := Scalar.remsi v145 c4_i32_162
  let c2_i32_163 : BitVec 32 := 2#32
  let v147 : BitVec 32 := Scalar.addi v2 c2_i32_163
  let v148 : BitVec 32 := Scalar.addi v147 v142
  let c4_i32_164 : BitVec 32 := 4#32
  let v149 : BitVec 32 := Scalar.remsi v148 c4_i32_164
  let v150 : BitVec 32 := Scalar.select true_165 v146 v149
  let c1024_i32_166 : BitVec 32 := 1024#32
  let v151 : BitVec 32 := Scalar.muli v150 c1024_i32_166
  let c0_i32_168 : BitVec 32 := 0#32
  ![v151.toNat, 0]
@[reducible] def k0_t6_loop : Scf.Loop 32 :=
  let c0_i32_171 : BitVec 32 := 0#32
  let c2_i32_172 : BitVec 32 := 2#32
  let v158 : BitVec 32 := Scalar.addi c0_i32_171 c2_i32_172
  let c1_i32_173 : BitVec 32 := 1#32
  ⟨c0_i32_171, v158, c1_i32_173⟩
def k0_off18 (k0_t6 : Fin k0_t6_loop.trips) : Fin 2 → Nat :=
  let c0_i32_192 : BitVec 32 := 0#32
  let c0_i32_190 : BitVec 32 := 0#32
  let c0_i32_171 : BitVec 32 := 0#32
  let c1_i32_173 : BitVec 32 := 1#32
  let arg17 : BitVec 32 := Scf.iv c0_i32_171 c1_i32_173 k0_t6
  let c2048_i32 : BitVec 32 := 2048#32
  let v175 : BitVec 32 := Scalar.muli arg17 c2048_i32
  let v176 : BitVec 32 := Scalar.addi c0_i32_190 v175
  ![0, v176.toNat]
def k0_off19 (k0_t6 : Fin k0_t6_loop.trips) : Fin 3 → Nat :=
  let c0_201 : Index := 0#32
  let c0_202 : Index := 0#32
  let c0_i32_171 : BitVec 32 := 0#32
  let c1_i32_173 : BitVec 32 := 1#32
  let arg17 : BitVec 32 := Scf.iv c0_i32_171 c1_i32_173 k0_t6
  let c2048_i32_200 : BitVec 32 := 2048#32
  let v186 : BitVec 32 := Scalar.muli arg17 c2048_i32_200
  let v187 : Index := Scalar.indexCast v186
  ![0, 0, v187.toNat]
@[reducible] def k0_t7_loop : Scf.Loop 32 :=
  let c0_i32_186 : BitVec 32 := 0#32
  let c2_i32_187 : BitVec 32 := 2#32
  let v174 : BitVec 32 := Scalar.addi c0_i32_186 c2_i32_187
  let c1_i32_188 : BitVec 32 := 1#32
  ⟨c0_i32_186, v174, c1_i32_188⟩
def k0_off20 (k0_t7 : Fin k0_t7_loop.trips) : Fin 2 → Nat :=
  let c0_i32_192 : BitVec 32 := 0#32
  let c4096_i32_190 : BitVec 32 := 4096#32
  let c0_i32_186 : BitVec 32 := 0#32
  let c1_i32_188 : BitVec 32 := 1#32
  let arg17 : BitVec 32 := Scf.iv c0_i32_186 c1_i32_188 k0_t7
  let c2048_i32 : BitVec 32 := 2048#32
  let v175 : BitVec 32 := Scalar.muli arg17 c2048_i32
  let v176 : BitVec 32 := Scalar.addi c4096_i32_190 v175
  ![0, v176.toNat]
def k0_off21 (k0_t7 : Fin k0_t7_loop.trips) : Fin 3 → Nat :=
  let c1 : Index := 1#32
  let c0_201 : Index := 0#32
  let c0_i32_186 : BitVec 32 := 0#32
  let c1_i32_188 : BitVec 32 := 1#32
  let arg17 : BitVec 32 := Scf.iv c0_i32_186 c1_i32_188 k0_t7
  let c2048_i32_200 : BitVec 32 := 2048#32
  let v186 : BitVec 32 := Scalar.muli arg17 c2048_i32_200
  let v187 : Index := Scalar.indexCast v186
  ![1, 0, v187.toNat]
@[reducible] def k0_t8_loop : Scf.Loop 32 :=
  let c0_i32_48 : BitVec 32 := 0#32
  let c4_i32_49 : BitVec 32 := 4#32
  let v46 : BitVec 32 := Scalar.addi c0_i32_48 c4_i32_49
  let c1_i32_50 : BitVec 32 := 1#32
  ⟨c0_i32_48, v46, c1_i32_50⟩
def k0_off22 (k0_t8 : Fin k0_t8_loop.trips) : Fin 3 → Nat :=
  let c0_i32_48 : BitVec 32 := 0#32
  let c1_i32_50 : BitVec 32 := 1#32
  let arg16 : BitVec 32 := Scf.iv c0_i32_48 c1_i32_50 k0_t8
  let c2_i32_155 : BitVec 32 := 2#32
  let v141 : BitVec 32 := Scalar.remsi arg16 c2_i32_155
  let c2_i32_166 : BitVec 32 := 2#32
  let c0_i32_157 : BitVec 32 := 0#32
  let v143 : BitVec 1 := Scalar.cmpi .sgt arg16 c0_i32_157
  let v144 : BitVec 32 := Scalar.extui v143
  let c0_i32_158 : BitVec 32 := 0#32
  let v145 : BitVec 1 := Scalar.cmpi .slt arg16 c0_i32_158
  let v146 : BitVec 32 := Scalar.extui v145
  let v147 : BitVec 32 := Scalar.subi v144 v146
  let c2_i32_156 : BitVec 32 := 2#32
  let c0_i32_159 : BitVec 32 := 0#32
  let v148 : BitVec 1 := Scalar.cmpi .sgt c2_i32_156 c0_i32_159
  let v149 : BitVec 32 := Scalar.extui v148
  let c0_i32_160 : BitVec 32 := 0#32
  let v150 : BitVec 1 := Scalar.cmpi .slt c2_i32_156 c0_i32_160
  let v151 : BitVec 32 := Scalar.extui v150
  let v152 : BitVec 32 := Scalar.subi v149 v151
  let v153 : BitVec 1 := Scalar.cmpi .ne v147 v152
  let v154 : BitVec 32 := Scalar.remsi arg16 c2_i32_156
  let c0_i32_161 : BitVec 32 := 0#32
  let v155 : BitVec 1 := Scalar.cmpi .ne v154 c0_i32_161
  let v156 : BitVec 1 := Scalar.andi v153 v155
  let v142 : BitVec 32 := Scalar.divsi arg16 c2_i32_156
  let c1_i32_162 : BitVec 32 := 1#32
  let v157 : BitVec 32 := Scalar.subi v142 c1_i32_162
  let v158 : BitVec 32 := Scalar.select v156 v157 v142
  ![v141.toNat, 2, v158.toNat]
def k0_off23 (k0_t8 : Fin k0_t8_loop.trips) : Fin 4 → Nat :=
  let c0_i32_48 : BitVec 32 := 0#32
  let c1_i32_50 : BitVec 32 := 1#32
  let arg16 : BitVec 32 := Scf.iv c0_i32_48 c1_i32_50 k0_t8
  let c2_i32_155 : BitVec 32 := 2#32
  let v141 : BitVec 32 := Scalar.remsi arg16 c2_i32_155
  let c2_i32_165 : BitVec 32 := 2#32
  let c0_i32_170 : BitVec 32 := 0#32
  let c0_i32_157 : BitVec 32 := 0#32
  let v143 : BitVec 1 := Scalar.cmpi .sgt arg16 c0_i32_157
  let v144 : BitVec 32 := Scalar.extui v143
  let c0_i32_158 : BitVec 32 := 0#32
  let v145 : BitVec 1 := Scalar.cmpi .slt arg16 c0_i32_158
  let v146 : BitVec 32 := Scalar.extui v145
  let v147 : BitVec 32 := Scalar.subi v144 v146
  let c2_i32_156 : BitVec 32 := 2#32
  let c0_i32_159 : BitVec 32 := 0#32
  let v148 : BitVec 1 := Scalar.cmpi .sgt c2_i32_156 c0_i32_159
  let v149 : BitVec 32 := Scalar.extui v148
  let c0_i32_160 : BitVec 32 := 0#32
  let v150 : BitVec 1 := Scalar.cmpi .slt c2_i32_156 c0_i32_160
  let v151 : BitVec 32 := Scalar.extui v150
  let v152 : BitVec 32 := Scalar.subi v149 v151
  let v153 : BitVec 1 := Scalar.cmpi .ne v147 v152
  let v154 : BitVec 32 := Scalar.remsi arg16 c2_i32_156
  let c0_i32_161 : BitVec 32 := 0#32
  let v155 : BitVec 1 := Scalar.cmpi .ne v154 c0_i32_161
  let v156 : BitVec 1 := Scalar.andi v153 v155
  let v142 : BitVec 32 := Scalar.divsi arg16 c2_i32_156
  let c1_i32_162 : BitVec 32 := 1#32
  let v157 : BitVec 32 := Scalar.subi v142 c1_i32_162
  let v158 : BitVec 32 := Scalar.select v156 v157 v142
  let c2048_i32_163 : BitVec 32 := 2048#32
  let v160 : BitVec 32 := Scalar.muli v158 c2048_i32_163
  ![v141.toNat, 2, 0, v160.toNat]
def k0_off24 (k0_t8 : Fin k0_t8_loop.trips) : Fin 3 → Nat :=
  let c0_i32_48 : BitVec 32 := 0#32
  let c1_i32_50 : BitVec 32 := 1#32
  let arg16 : BitVec 32 := Scf.iv c0_i32_48 c1_i32_50 k0_t8
  let c2_i32_155 : BitVec 32 := 2#32
  let v141 : BitVec 32 := Scalar.remsi arg16 c2_i32_155
  let c0_i32_171 : BitVec 32 := 0#32
  let c0_i32_157 : BitVec 32 := 0#32
  let v143 : BitVec 1 := Scalar.cmpi .sgt arg16 c0_i32_157
  let v144 : BitVec 32 := Scalar.extui v143
  let c0_i32_158 : BitVec 32 := 0#32
  let v145 : BitVec 1 := Scalar.cmpi .slt arg16 c0_i32_158
  let v146 : BitVec 32 := Scalar.extui v145
  let v147 : BitVec 32 := Scalar.subi v144 v146
  let c2_i32_156 : BitVec 32 := 2#32
  let c0_i32_159 : BitVec 32 := 0#32
  let v148 : BitVec 1 := Scalar.cmpi .sgt c2_i32_156 c0_i32_159
  let v149 : BitVec 32 := Scalar.extui v148
  let c0_i32_160 : BitVec 32 := 0#32
  let v150 : BitVec 1 := Scalar.cmpi .slt c2_i32_156 c0_i32_160
  let v151 : BitVec 32 := Scalar.extui v150
  let v152 : BitVec 32 := Scalar.subi v149 v151
  let v153 : BitVec 1 := Scalar.cmpi .ne v147 v152
  let v154 : BitVec 32 := Scalar.remsi arg16 c2_i32_156
  let c0_i32_161 : BitVec 32 := 0#32
  let v155 : BitVec 1 := Scalar.cmpi .ne v154 c0_i32_161
  let v156 : BitVec 1 := Scalar.andi v153 v155
  let v142 : BitVec 32 := Scalar.divsi arg16 c2_i32_156
  let c1_i32_162 : BitVec 32 := 1#32
  let v157 : BitVec 32 := Scalar.subi v142 c1_i32_162
  let v158 : BitVec 32 := Scalar.select v156 v157 v142
  let c2048_i32 : BitVec 32 := 2048#32
  let v159 : BitVec 32 := Scalar.muli v158 c2048_i32
  ![v141.toNat, 0, v159.toNat]
def k0_off25 (k0_t8 : Fin k0_t8_loop.trips) : Fin 3 → Nat :=
  let c0_i32_48 : BitVec 32 := 0#32
  let c1_i32_50 : BitVec 32 := 1#32
  let arg16 : BitVec 32 := Scf.iv c0_i32_48 c1_i32_50 k0_t8
  let c2_i32_155 : BitVec 32 := 2#32
  let v141 : BitVec 32 := Scalar.remsi arg16 c2_i32_155
  let v183 : Index := Scalar.indexCast v141
  let c0_182 : Index := 0#32
  let c0_i32_157 : BitVec 32 := 0#32
  let v143 : BitVec 1 := Scalar.cmpi .sgt arg16 c0_i32_157
  let v144 : BitVec 32 := Scalar.extui v143
  let c0_i32_158 : BitVec 32 := 0#32
  let v145 : BitVec 1 := Scalar.cmpi .slt arg16 c0_i32_158
  let v146 : BitVec 32 := Scalar.extui v145
  let v147 : BitVec 32 := Scalar.subi v144 v146
  let c2_i32_156 : BitVec 32 := 2#32
  let c0_i32_159 : BitVec 32 := 0#32
  let v148 : BitVec 1 := Scalar.cmpi .sgt c2_i32_156 c0_i32_159
  let v149 : BitVec 32 := Scalar.extui v148
  let c0_i32_160 : BitVec 32 := 0#32
  let v150 : BitVec 1 := Scalar.cmpi .slt c2_i32_156 c0_i32_160
  let v151 : BitVec 32 := Scalar.extui v150
  let v152 : BitVec 32 := Scalar.subi v149 v151
  let v153 : BitVec 1 := Scalar.cmpi .ne v147 v152
  let v154 : BitVec 32 := Scalar.remsi arg16 c2_i32_156
  let c0_i32_161 : BitVec 32 := 0#32
  let v155 : BitVec 1 := Scalar.cmpi .ne v154 c0_i32_161
  let v156 : BitVec 1 := Scalar.andi v153 v155
  let v142 : BitVec 32 := Scalar.divsi arg16 c2_i32_156
  let c1_i32_162 : BitVec 32 := 1#32
  let v157 : BitVec 32 := Scalar.subi v142 c1_i32_162
  let v158 : BitVec 32 := Scalar.select v156 v157 v142
  let c2048_i32_181 : BitVec 32 := 2048#32
  let v182 : BitVec 32 := Scalar.muli v158 c2048_i32_181
  let v184 : Index := Scalar.indexCast v182
  ![v183.toNat, 0, v184.toNat]
@[reducible] def k0_t9_loop : Scf.Loop 32 :=
  let c0_i32_52 : BitVec 32 := 0#32
  let c4_i32_53 : BitVec 32 := 4#32
  let v48 : BitVec 32 := Scalar.addi c0_i32_52 c4_i32_53
  let c1_i32_54 : BitVec 32 := 1#32
  ⟨c0_i32_52, v48, c1_i32_54⟩
def k0_off26 (k0_t9 : Fin k0_t9_loop.trips) : Fin 3 → Nat :=
  let c0_i32_52 : BitVec 32 := 0#32
  let c1_i32_54 : BitVec 32 := 1#32
  let arg16 : BitVec 32 := Scf.iv c0_i32_52 c1_i32_54 k0_t9
  let c2_i32_155 : BitVec 32 := 2#32
  let v141 : BitVec 32 := Scalar.remsi arg16 c2_i32_155
  let c2_i32_166 : BitVec 32 := 2#32
  let c0_i32_157 : BitVec 32 := 0#32
  let v143 : BitVec 1 := Scalar.cmpi .sgt arg16 c0_i32_157
  let v144 : BitVec 32 := Scalar.extui v143
  let c0_i32_158 : BitVec 32 := 0#32
  let v145 : BitVec 1 := Scalar.cmpi .slt arg16 c0_i32_158
  let v146 : BitVec 32 := Scalar.extui v145
  let v147 : BitVec 32 := Scalar.subi v144 v146
  let c2_i32_156 : BitVec 32 := 2#32
  let c0_i32_159 : BitVec 32 := 0#32
  let v148 : BitVec 1 := Scalar.cmpi .sgt c2_i32_156 c0_i32_159
  let v149 : BitVec 32 := Scalar.extui v148
  let c0_i32_160 : BitVec 32 := 0#32
  let v150 : BitVec 1 := Scalar.cmpi .slt c2_i32_156 c0_i32_160
  let v151 : BitVec 32 := Scalar.extui v150
  let v152 : BitVec 32 := Scalar.subi v149 v151
  let v153 : BitVec 1 := Scalar.cmpi .ne v147 v152
  let v154 : BitVec 32 := Scalar.remsi arg16 c2_i32_156
  let c0_i32_161 : BitVec 32 := 0#32
  let v155 : BitVec 1 := Scalar.cmpi .ne v154 c0_i32_161
  let v156 : BitVec 1 := Scalar.andi v153 v155
  let v142 : BitVec 32 := Scalar.divsi arg16 c2_i32_156
  let c1_i32_162 : BitVec 32 := 1#32
  let v157 : BitVec 32 := Scalar.subi v142 c1_i32_162
  let v158 : BitVec 32 := Scalar.select v156 v157 v142
  ![v141.toNat, 2, v158.toNat]
def k0_off27 (k0_t9 : Fin k0_t9_loop.trips) : Fin 3 → Nat :=
  let c0_i32_52 : BitVec 32 := 0#32
  let c1_i32_54 : BitVec 32 := 1#32
  let arg16 : BitVec 32 := Scf.iv c0_i32_52 c1_i32_54 k0_t9
  let c2_i32_155 : BitVec 32 := 2#32
  let v141 : BitVec 32 := Scalar.remsi arg16 c2_i32_155
  let c0_i32_169 : BitVec 32 := 0#32
  let c0_i32_157 : BitVec 32 := 0#32
  let v143 : BitVec 1 := Scalar.cmpi .sgt arg16 c0_i32_157
  let v144 : BitVec 32 := Scalar.extui v143
  let c0_i32_158 : BitVec 32 := 0#32
  let v145 : BitVec 1 := Scalar.cmpi .slt arg16 c0_i32_158
  let v146 : BitVec 32 := Scalar.extui v145
  let v147 : BitVec 32 := Scalar.subi v144 v146
  let c2_i32_156 : BitVec 32 := 2#32
  let c0_i32_159 : BitVec 32 := 0#32
  let v148 : BitVec 1 := Scalar.cmpi .sgt c2_i32_156 c0_i32_159
  let v149 : BitVec 32 := Scalar.extui v148
  let c0_i32_160 : BitVec 32 := 0#32
  let v150 : BitVec 1 := Scalar.cmpi .slt c2_i32_156 c0_i32_160
  let v151 : BitVec 32 := Scalar.extui v150
  let v152 : BitVec 32 := Scalar.subi v149 v151
  let v153 : BitVec 1 := Scalar.cmpi .ne v147 v152
  let v154 : BitVec 32 := Scalar.remsi arg16 c2_i32_156
  let c0_i32_161 : BitVec 32 := 0#32
  let v155 : BitVec 1 := Scalar.cmpi .ne v154 c0_i32_161
  let v156 : BitVec 1 := Scalar.andi v153 v155
  let v142 : BitVec 32 := Scalar.divsi arg16 c2_i32_156
  let c1_i32_162 : BitVec 32 := 1#32
  let v157 : BitVec 32 := Scalar.subi v142 c1_i32_162
  let v158 : BitVec 32 := Scalar.select v156 v157 v142
  let c2048_i32 : BitVec 32 := 2048#32
  let v159 : BitVec 32 := Scalar.muli v158 c2048_i32
  ![v141.toNat, 0, v159.toNat]
def k0_off28 (k0_t9 : Fin k0_t9_loop.trips) : Fin 4 → Nat :=
  let c0_i32_52 : BitVec 32 := 0#32
  let c1_i32_54 : BitVec 32 := 1#32
  let arg16 : BitVec 32 := Scf.iv c0_i32_52 c1_i32_54 k0_t9
  let c2_i32_155 : BitVec 32 := 2#32
  let v141 : BitVec 32 := Scalar.remsi arg16 c2_i32_155
  let c2_i32_165 : BitVec 32 := 2#32
  let c0_i32_170 : BitVec 32 := 0#32
  let c0_i32_157 : BitVec 32 := 0#32
  let v143 : BitVec 1 := Scalar.cmpi .sgt arg16 c0_i32_157
  let v144 : BitVec 32 := Scalar.extui v143
  let c0_i32_158 : BitVec 32 := 0#32
  let v145 : BitVec 1 := Scalar.cmpi .slt arg16 c0_i32_158
  let v146 : BitVec 32 := Scalar.extui v145
  let v147 : BitVec 32 := Scalar.subi v144 v146
  let c2_i32_156 : BitVec 32 := 2#32
  let c0_i32_159 : BitVec 32 := 0#32
  let v148 : BitVec 1 := Scalar.cmpi .sgt c2_i32_156 c0_i32_159
  let v149 : BitVec 32 := Scalar.extui v148
  let c0_i32_160 : BitVec 32 := 0#32
  let v150 : BitVec 1 := Scalar.cmpi .slt c2_i32_156 c0_i32_160
  let v151 : BitVec 32 := Scalar.extui v150
  let v152 : BitVec 32 := Scalar.subi v149 v151
  let v153 : BitVec 1 := Scalar.cmpi .ne v147 v152
  let v154 : BitVec 32 := Scalar.remsi arg16 c2_i32_156
  let c0_i32_161 : BitVec 32 := 0#32
  let v155 : BitVec 1 := Scalar.cmpi .ne v154 c0_i32_161
  let v156 : BitVec 1 := Scalar.andi v153 v155
  let v142 : BitVec 32 := Scalar.divsi arg16 c2_i32_156
  let c1_i32_162 : BitVec 32 := 1#32
  let v157 : BitVec 32 := Scalar.subi v142 c1_i32_162
  let v158 : BitVec 32 := Scalar.select v156 v157 v142
  let c2048_i32_163 : BitVec 32 := 2048#32
  let v160 : BitVec 32 := Scalar.muli v158 c2048_i32_163
  ![v141.toNat, 2, 0, v160.toNat]
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_57 : BitVec 32 := 1#32
  let v53 : BitVec 32 := Scalar.addi v2 c1_i32_57
  let c4_i32_58 : BitVec 32 := 4#32
  let v54 : BitVec 32 := Scalar.remsi v53 c4_i32_58
  let c1_i32_62 : BitVec 32 := 1#32
  let v55 : BitVec 32 := Scalar.muli v54 c1_i32_62
  let v56 : BitVec 32 := Scalar.addi c0_i32_63 v55
  v56.toNat
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_66 : BitVec 32 := 2#32
  let v63 : BitVec 32 := Scalar.addi v2 c2_i32_66
  let c4_i32_67 : BitVec 32 := 4#32
  let v64 : BitVec 32 := Scalar.remsi v63 c4_i32_67
  let c1_i32_71 : BitVec 32 := 1#32
  let v65 : BitVec 32 := Scalar.muli v64 c1_i32_71
  let v66 : BitVec 32 := Scalar.addi c0_i32_72 v65
  v66.toNat
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_75 : BitVec 32 := 3#32
  let v73 : BitVec 32 := Scalar.addi v2 c3_i32_75
  let c4_i32_76 : BitVec 32 := 4#32
  let v74 : BitVec 32 := Scalar.remsi v73 c4_i32_76
  let c1_i32_80 : BitVec 32 := 1#32
  let v75 : BitVec 32 := Scalar.muli v74 c1_i32_80
  let v76 : BitVec 32 := Scalar.addi c0_i32_81 v75
  v76.toNat
@[reducible] def k0_t10_loop : Scf.Loop 32 :=
  let c0_i32_128 : BitVec 32 := 0#32
  let c4_i32_129 : BitVec 32 := 4#32
  let v120 : BitVec 32 := Scalar.addi c0_i32_128 c4_i32_129
  let c1_i32_130 : BitVec 32 := 1#32
  ⟨c0_i32_128, v120, c1_i32_130⟩
def k0_off29 (k0_t10 : Fin k0_t10_loop.trips) : Fin 3 → Nat :=
  let c0_i32_128 : BitVec 32 := 0#32
  let c1_i32_130 : BitVec 32 := 1#32
  let arg16 : BitVec 32 := Scf.iv c0_i32_128 c1_i32_130 k0_t10
  let c2_i32_155 : BitVec 32 := 2#32
  let v141 : BitVec 32 := Scalar.remsi arg16 c2_i32_155
  let v160 : Index := Scalar.indexCast v141
  let c0_163 : Index := 0#32
  let c0_i32_157 : BitVec 32 := 0#32
  let v143 : BitVec 1 := Scalar.cmpi .sgt arg16 c0_i32_157
  let v144 : BitVec 32 := Scalar.extui v143
  let c0_i32_158 : BitVec 32 := 0#32
  let v145 : BitVec 1 := Scalar.cmpi .slt arg16 c0_i32_158
  let v146 : BitVec 32 := Scalar.extui v145
  let v147 : BitVec 32 := Scalar.subi v144 v146
  let c2_i32_156 : BitVec 32 := 2#32
  let c0_i32_159 : BitVec 32 := 0#32
  let v148 : BitVec 1 := Scalar.cmpi .sgt c2_i32_156 c0_i32_159
  let v149 : BitVec 32 := Scalar.extui v148
  let c0_i32_160 : BitVec 32 := 0#32
  let v150 : BitVec 1 := Scalar.cmpi .slt c2_i32_156 c0_i32_160
  let v151 : BitVec 32 := Scalar.extui v150
  let v152 : BitVec 32 := Scalar.subi v149 v151
  let v153 : BitVec 1 := Scalar.cmpi .ne v147 v152
  let v154 : BitVec 32 := Scalar.remsi arg16 c2_i32_156
  let c0_i32_161 : BitVec 32 := 0#32
  let v155 : BitVec 1 := Scalar.cmpi .ne v154 c0_i32_161
  let v156 : BitVec 1 := Scalar.andi v153 v155
  let v142 : BitVec 32 := Scalar.divsi arg16 c2_i32_156
  let c1_i32_162 : BitVec 32 := 1#32
  let v157 : BitVec 32 := Scalar.subi v142 c1_i32_162
  let v158 : BitVec 32 := Scalar.select v156 v157 v142
  let c2048_i32 : BitVec 32 := 2048#32
  let v159 : BitVec 32 := Scalar.muli v158 c2048_i32
  let v161 : Index := Scalar.indexCast v159
  ![v160.toNat, 0, v161.toNat]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.KernelIdeal.Common.lean ====
/-
  The ring on four devices: which device sends what to which, the slots its copies read and land in, the
  semaphore cells, and the values that travel. Everything here is a definition over the launch memory `m`, for
  any float instance.

  A CHANNEL `q` is a direction and a column half: even channels travel to the next device, odd ones to the one
  before; channel `q` carries the columns `4096 * (q % 2) + 2048 * (q / 2)` and on. A ring copy is a pair of a
  hop `s` and a channel `q`; a copy of the maximum is its distance less one.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

set_option backward.proofsInPublic true in
/-- The device `i` places on. -/
def up (c : Dev nD) (i : ℕ) : Dev nD := ⟨(c.val + i) % 4, Nat.mod_lt _ (by decide)⟩

/-- Where channel `q` of device `c` goes, and where it comes from. -/
def dst (c : Dev nD) (q : Fin 4) : Dev nD := if q.val % 2 = 0 then up c 1 else up c 3
def src (c : Dev nD) (q : Fin 4) : Dev nD := if q.val % 2 = 0 then up c 3 else up c 1

theorem src_dst (c : Dev nD) (q : Fin 4) : src (dst c q) q = c := by revert c q; decide
theorem dst_src (c : Dev nD) (q : Fin 4) : dst (src c q) q = c := by revert c q; decide

/-- The row chunk whose product device `c` sends first on channel `q`, and the one it adds at hop `s`. -/
def sc (c : Dev nD) (q : Fin 4) : Fin 4 := if q.val % 2 = 0 then up c 3 else up c 1
def rc (c : Dev nD) (q : Fin 4) (s : ℕ) : Fin 4 := if q.val % 2 = 0 then up c (2 + 3 * s) else up c (2 + s)

/-! ## The buffers and their slots -/

abbrev aM : Memref sig .tc .hbm S4096x1024 .f32 := Memref.whole main_arg0
abbrev bM : Memref sig .tc .hbm S1024x8192 .f32 := Memref.whole main_arg1
abbrev oM : Memref sig .tc .hbm S1024x8192 .f32 := Memref.whole main_v1_0
abbrev rM : Memref sig .tc .hbm S2x3x1024x4096 .bf16 := Memref.whole main_v1_1
abbrev sM : Memref sig .tc .hbm S2x1024x4096 .bf16 := Memref.whole main_v1_2
abbrev gM : Memref sig .tc .vmem S2x1024x4096 .f32 := Memref.whole cc0_scratch0
abbrev xvM : Memref sig .tc .vmem S1024x1024 .f32 := Memref.whole cc0_scratch1
abbrev wvM : Memref sig .tc .vmem S1024x2048 .f32 := Memref.whole cc0_scratch2
abbrev wbM : Memref sig .tc .vmem S1024x2048 .bf16 := Memref.whole cc0_scratch3
abbrev amM : Memref sig .tc .vmem S8x128 .f32 := Memref.whole cc0_scratch4
abbrev arM : Memref sig .tc .vmem S3x8x128 .f32 := Memref.whole cc0_scratch5

/-- Offsets: a chunk of rows of `x`, a channel's columns of `w`, its slot of the send buffer (and of the
    accumulator, which has the same shape), its slot of the receive buffer at hop `s`. -/
def xOff (r : Fin 4) : Fin 2 → ℕ := ![1024 * r.val, 0]
def wOff (q : Fin 4) : Fin 2 → ℕ := ![0, 4096 * (q.val % 2) + 2048 * (q.val / 2)]
def sOff (q : Fin 4) : Fin 3 → ℕ := ![q.val % 2, 0, 2048 * (q.val / 2)]
def rOff (s : Fin 3) (q : Fin 4) : Fin 4 → ℕ := ![q.val % 2, s.val, 0, 2048 * (q.val / 2)]
def mOff (j : Fin 3) : Fin 3 → ℕ := ![j.val, 0, 0]

theorem xOff_inb : ∀ r a, xOff r a + S1024x1024.size a ≤ S4096x1024.size a := by decide
theorem wOff_inb : ∀ q a, wOff q a + S1024x2048.size a ≤ S1024x8192.size a := by decide
theorem sOff_inb : ∀ q a, sOff q a + S1x1024x2048.size a ≤ S2x1024x4096.size a := by decide
theorem rOff_inb : ∀ s q a, rOff s q a + S1x1x1024x2048.size a ≤ S2x3x1024x4096.size a := by decide
theorem mOff_inb : ∀ j a, mOff j a + S1x8x128.size a ≤ S3x8x128.size a := by decide

def xS (r : Fin 4) : Memref sig .tc .hbm S1024x1024 .f32 :=
  aM.slice (Rect.unit (s := S4096x1024) (xOff r) S1024x1024.size (xOff_inb r)) (fun _ => rfl)
def wS (q : Fin 4) : Memref sig .tc .hbm S1024x2048 .f32 :=
  bM.slice (Rect.unit (s := S1024x8192) (wOff q) S1024x2048.size (wOff_inb q)) (fun _ => rfl)
def sS (q : Fin 4) : Memref sig .tc .hbm S1024x2048 .bf16 :=
  (sM.slice (Rect.unit (s := S2x1024x4096) (sOff q) S1x1024x2048.size (sOff_inb q)) (fun _ => rfl)).squeeze S1024x2048 squeezes_S1x1024x2048_S1024x2048
def rS (s : Fin 3) (q : Fin 4) : Memref sig .tc .hbm S1024x2048 .bf16 :=
  (rM.slice (Rect.unit (s := S2x3x1024x4096) (rOff s q) S1x1x1024x2048.size (rOff_inb s q)) (fun _ => rfl)).squeeze S1024x2048 squeezes_S1x1x1024x2048_S1024x2048
def mS (j : Fin 3) : Memref sig .tc .vmem S8x128 .f32 :=
  (arM.slice (Rect.unit (s := S3x8x128) (mOff j) S1x8x128.size (mOff_inb j)) (fun _ => rfl)).squeeze S8x128 squeezes_S1x8x128_S8x128

theorem xS_of {r : Fin 4} {off : Fin 2 → ℕ} (h : off = xOff r) (inb : ∀ a, off a + S1024x1024.size a ≤ S4096x1024.size a) :
    aM.slice (Rect.unit (s := S4096x1024) off S1024x1024.size inb) (fun _ => rfl) = xS r := by subst h; rfl
theorem wS_of {q : Fin 4} {off : Fin 2 → ℕ} (h : off = wOff q) (inb : ∀ a, off a + S1024x2048.size a ≤ S1024x8192.size a) :
    bM.slice (Rect.unit (s := S1024x8192) off S1024x2048.size inb) (fun _ => rfl) = wS q := by subst h; rfl
theorem sS_of {q : Fin 4} {off : Fin 3 → ℕ} (h : off = sOff q) (inb : ∀ a, off a + S1x1024x2048.size a ≤ S2x1024x4096.size a) :
    (sM.slice (Rect.unit (s := S2x1024x4096) off S1x1024x2048.size inb) (fun _ => rfl)).squeeze S1024x2048 squeezes_S1x1024x2048_S1024x2048 = sS q := by
  subst h; rfl
theorem rS_of {s : Fin 3} {q : Fin 4} {off : Fin 4 → ℕ} (h : off = rOff s q) (inb : ∀ a, off a + S1x1x1024x2048.size a ≤ S2x3x1024x4096.size a) :
    (rM.slice (Rect.unit (s := S2x3x1024x4096) off S1x1x1024x2048.size inb) (fun _ => rfl)).squeeze S1024x2048 squeezes_S1x1x1024x2048_S1024x2048 = rS s q := by
  subst h; rfl

/-! ## The cells -/

/-- A copy to another device: a ring copy (hop, channel), or the maximum's (distance less one). -/
abbrev Ev : Type := (Fin 3 × Fin 4) ⊕ Fin 3
/-- A cell: the barrier's, or a copy's send cell (`false`) or receive cell (`true`). -/
abbrev KC : Type := Option (Bool × Ev)

abbrev barS : Sem sig := (SemArray.scalar (sig.barrier 0 rfl) : Sems sig S_).sem

set_option backward.proofsInPublic true in
def semIx : Bool × Ev → Fin 30
  | (b, .inl (s, q)) => ⟨(if b then 12 else 0) + ((q.val % 2) * 6 + s.val * 2 + q.val / 2), by revert b s q; decide⟩
  | (false, .inr i) => ⟨24 + i.val, by omega⟩
  | (true, .inr i) => ⟨29 - i.val, by omega⟩

/-- The kernel's own semaphores, in the order the signature has them. -/
abbrev osem : Fin 32 → SemLoc sig := fun i => .dma i
set_option backward.proofsInPublic true in
def evSem (be : Bool × Ev) : DmaSem sig := (⟨(semIx be).val, by have := (semIx be).isLt; show _ < 32; omega⟩ : Fin 32)
def csem : KC → SemLoc sig
  | none => .reg barS
  | some be => .dma (evSem be)

theorem csem_inj : Function.Injective csem := by decide

/-- The copy a semaphore belongs to. -/
def dec (sm : SemLoc sig) : Option KC := if h : ∃ k, csem k = sm then some h.choose else none
theorem dec_csem (k : KC) : dec (csem k) = some k := by
  have h : ∃ k', csem k' = csem k := ⟨k, rfl⟩
  unfold dec; rw [dif_pos h]; exact congrArg some (csem_inj h.choose_spec)

abbrev cell (c : Dev nD) (k : KC) : GSem nD τ sig := ((c : Thread nD τ), csem k)

theorem cell_inj {c c' : Dev nD} {k k' : KC} (h : cell c k = cell c' k') : c = c' ∧ k = k' := by
  have h1 := congrArg (fun g : GSem nD τ sig => g.1.1) h
  have h2 := congrArg (fun g : GSem nD τ sig => g.2) h
  exact ⟨h1, csem_inj h2⟩

/-- Where a copy goes. -/
def evDst (c : Dev nD) : Ev → Dev nD
  | .inl (_, q) => dst c q
  | .inr i => up c (i.val + 1)
/-- Where the copy that lands at `c` came from. -/
def evSrc (c : Dev nD) : Ev → Dev nD
  | .inl (_, q) => src c q
  | .inr i => up c (3 - i.val)
theorem evSrc_dst (c : Dev nD) (e : Ev) : evSrc (evDst c e) e = c := by revert c e; decide
theorem evDst_src (c : Dev nD) (e : Ev) : evDst (evSrc c e) e = c := by revert c e; decide

/-- What a copy credits each of its cells. -/
def NB : ℕ := (wbM : Memref sig .tc .vmem S1024x2048 .bf16).view.dmaCredit
def NA : ℕ := (amM : Memref sig .tc .vmem S8x128 .f32).view.dmaCredit
theorem NB_pos : 0 < NB := View.dmaCredit_pos _ (by decide)
theorem NA_pos : 0 < NA := View.dmaCredit_pos _ (by decide)
def evN : Ev → ℕ
  | .inl _ => NB
  | .inr _ => NA
theorem evN_pos (e : Ev) : 0 < evN e := by cases e; exacts [NB_pos, NA_pos]

end Cert.KernelIdeal.Run

end
-- ==== Proof.KernelIdeal.Forms.lean ====
/-
  What the kernel's index arithmetic comes to: the device each copy names, the offset each slice is taken at and
  the semaphore each transfer uses, trip by trip, as the ring's own functions. Decided over the finite indices.
-/
module

public import proofs.«01_k».proof.Proof.KernelIdeal.Common

@[expose] public section

set_option backward.proofsInPublic true

noncomputable section

namespace Cert.KernelIdeal.Run

open Cert.KernelIdeal Cert.KernelIdeal.Gen
open Idealize.ShloMosaic

/-! ## Loop trips -/

theorem trips1 : k0_t1_loop.trips = 4 := by decide
theorem trips2 : k0_t2_loop.trips = 2 := by decide
theorem trips3 : k0_t3_loop.trips = 2 := by decide
theorem trips4 : k0_t4_loop.trips = 2 := by decide
theorem trips5 : k0_t5_loop.trips = 4 := by decide
theorem trips6 : k0_t6_loop.trips = 2 := by decide
theorem trips7 : k0_t7_loop.trips = 2 := by decide
theorem trips8 : k0_t8_loop.trips = 4 := by decide
theorem trips9 : k0_t9_loop.trips = 4 := by decide
theorem trips10 : k0_t10_loop.trips = 4 := by decide

/-- The channel of a trip over channels. -/
abbrev chan {n : ℕ} (h : n = 4) (t : Fin n) : Fin 4 := Fin.cast h t
/-- The channels of direction 0 and of direction 1, by half. -/
def chan0 {n : ℕ} (h : n = 2) (t : Fin n) : Fin 4 := if t.val = 0 then 0 else 2
def chan1 {n : ℕ} (h : n = 2) (t : Fin n) : Fin 4 := if t.val = 0 then 1 else 3
/-- The hop a trip of the hop loop receives, and the one it sends. -/
def hopIn {n : ℕ} (h : n = 2) (t : Fin n) : Fin 3 := if t.val = 0 then 0 else 1
def hopOut {n : ℕ} (h : n = 2) (t : Fin n) : Fin 3 := if t.val = 0 then 1 else 2

/-! ## Devices -/

theorem dev1_eq (d : Dev nD) : (⟨k0_dev1 d, k0_dev1_lt d⟩ : Dev nD) = up d 3 := by
  apply Fin.ext; show k0_dev1 d = (up d 3).val; revert d; decide +kernel
theorem dev2_eq (d : Dev nD) : (⟨k0_dev2 d, k0_dev2_lt d⟩ : Dev nD) = up d 1 := by
  apply Fin.ext; show k0_dev2 d = (up d 1).val; revert d; decide +kernel
theorem dev3_eq (d : Dev nD) (t : Fin k0_t1_loop.trips) : (⟨k0_dev3 d t, k0_dev3_lt d t⟩ : Dev nD) = dst d (chan trips1 t) := by
  apply Fin.ext; show k0_dev3 d t = (dst d (chan trips1 t)).val; revert d t; decide +kernel
theorem dev4_eq (d : Dev nD) (t : Fin k0_t5_loop.trips) : (⟨k0_dev4 d t, k0_dev4_lt d t⟩ : Dev nD) = dst d (chan trips5 t) := by
  apply Fin.ext; show k0_dev4 d t = (dst d (chan trips5 t)).val; revert d t; decide +kernel
theorem dev5_eq (d : Dev nD) : (⟨k0_dev5 d, k0_dev5_lt d⟩ : Dev nD) = up d 1 := by
  apply Fin.ext; show k0_dev5 d = (up d 1).val; revert d; decide +kernel
theorem dev6_eq (d : Dev nD) : (⟨k0_dev6 d, k0_dev6_lt d⟩ : Dev nD) = up d 2 := by
  apply Fin.ext; show k0_dev6 d = (up d 2).val; revert d; decide +kernel
theorem dev7_eq (d : Dev nD) : (⟨k0_dev7 d, k0_dev7_lt d⟩ : Dev nD) = up d 3 := by
  apply Fin.ext; show k0_dev7 d = (up d 3).val; revert d; decide +kernel

/-! ## Offsets -/

theorem off1_eq : ∀ (d : Dev nD) (t : Fin k0_t1_loop.trips), k0_off1 d t = xOff (sc d (chan trips1 t)) := by decide +kernel
theorem off2_eq : ∀ (t : Fin k0_t1_loop.trips), k0_off2 t = wOff (chan trips1 t) := by decide +kernel
theorem off3_eq : ∀ (t : Fin k0_t1_loop.trips), k0_off3 t = sOff (chan trips1 t) := by decide +kernel
theorem off5_eq : ∀ (t : Fin k0_t1_loop.trips), k0_off5 t = rOff 0 (chan trips1 t) := by decide +kernel
theorem off6a_eq : ∀ (d : Dev nD), k0_off6 d 1#1 = xOff (rc d 0 0) := by decide +kernel
theorem off6b_eq : ∀ (d : Dev nD), k0_off6 d 0#1 = xOff (rc d 1 0) := by decide +kernel
theorem off7_eq : ∀ (t : Fin k0_t2_loop.trips), k0_off7 t = wOff (chan0 trips2 t) := by decide +kernel
theorem off8_eq : ∀ (t : Fin k0_t2_loop.trips), k0_off8 t = sOff (chan0 trips2 t) := by decide +kernel
theorem off9_eq : ∀ (t : Fin k0_t3_loop.trips), k0_off9 t = wOff (chan1 trips3 t) := by decide +kernel
theorem off10_eq : ∀ (t : Fin k0_t3_loop.trips), k0_off10 t = sOff (chan1 trips3 t) := by decide +kernel
theorem off12_eq : ∀ (k : Fin k0_t4_loop.trips) (t : Fin k0_t5_loop.trips), k0_off12 k t = rOff (hopIn trips4 k) (chan trips5 t) := by decide +kernel
theorem off13_eq : ∀ (t : Fin k0_t5_loop.trips), k0_off13 t = sOff (chan trips5 t) := by decide +kernel
theorem off14_eq : ∀ (t : Fin k0_t5_loop.trips), k0_off14 t = sOff (chan trips5 t) := by decide +kernel
theorem off16_eq : ∀ (k : Fin k0_t4_loop.trips) (t : Fin k0_t5_loop.trips), k0_off16 k t = rOff (hopOut trips4 k) (chan trips5 t) := by decide +kernel
theorem off17a_eq : ∀ (d : Dev nD) (k : Fin k0_t4_loop.trips), k0_off17 d k 1#1 = xOff (rc d 0 (k.val + 1)) := by decide +kernel
theorem off17b_eq : ∀ (d : Dev nD) (k : Fin k0_t4_loop.trips), k0_off17 d k 0#1 = xOff (rc d 1 (k.val + 1)) := by decide +kernel
theorem off18_eq : ∀ (t : Fin k0_t6_loop.trips), k0_off18 t = wOff (chan0 trips6 t) := by decide +kernel
theorem off19_eq : ∀ (t : Fin k0_t6_loop.trips), k0_off19 t = sOff (chan0 trips6 t) := by decide +kernel
theorem off20_eq : ∀ (t : Fin k0_t7_loop.trips), k0_off20 t = wOff (chan1 trips7 t) := by decide +kernel
theorem off21_eq : ∀ (t : Fin k0_t7_loop.trips), k0_off21 t = sOff (chan1 trips7 t) := by decide +kernel
theorem off23_eq : ∀ (t : Fin k0_t8_loop.trips), k0_off23 t = rOff 2 (chan trips8 t) := by decide +kernel
theorem off24_eq : ∀ (t : Fin k0_t8_loop.trips), k0_off24 t = sOff (chan trips8 t) := by decide +kernel
theorem off25_eq : ∀ (t : Fin k0_t8_loop.trips), k0_off25 t = sOff (chan trips8 t) := by decide +kernel
theorem off27_eq : ∀ (t : Fin k0_t9_loop.trips), k0_off27 t = sOff (chan trips9 t) := by decide +kernel
theorem off28_eq : ∀ (t : Fin k0_t9_loop.trips), k0_off28 t = rOff 2 (chan trips9 t) := by decide +kernel
theorem off29_eq : ∀ (t : Fin k0_t10_loop.trips), k0_off29 t = sOff (chan trips10 t) := by decide +kernel

/-! ## Semaphores -/

/-- A ring copy's place in the two arrays of ring semaphores. -/
def eOff (s : Fin 3) (q : Fin 4) : Fin 3 → ℕ := ![q.val % 2, s.val, q.val / 2]
theorem off4_eq : ∀ (t : Fin k0_t1_loop.trips), k0_off4 t = eOff 0 (chan trips1 t) := by decide +kernel
theorem off11_eq : ∀ (k : Fin k0_t4_loop.trips) (t : Fin k0_t5_loop.trips), k0_off11 k t = eOff (hopIn trips4 k) (chan trips5 t) := by decide +kernel
theorem off15_eq : ∀ (k : Fin k0_t4_loop.trips) (t : Fin k0_t5_loop.trips), k0_off15 k t = eOff (hopOut trips4 k) (chan trips5 t) := by decide +kernel
theorem off22_eq : ∀ (t : Fin k0_t8_loop.trips), k0_off22 t = eOff 2 (chan trips8 t) := by decide +kernel
theorem off26_eq : ∀ (t : Fin k0_t9_loop.trips), k0_off26 t = eOff 2 (chan trips9 t) := by decide +kernel

/-! ## Semaphores -/

theorem ssem_at : ∀ (s : Fin 3) (q : Fin 4) (inb : ∀ a, eOff s q a + S1x1x1.size a ≤ S2x3x2.size a),
    ((cc0_scratch6.slice (Rect.unit (s := S2x3x2) (eOff s q) S1x1x1.size inb)).squeeze S_ squeezes_S1x1x1_S_).sem = evSem (false, .inl (s, q)) := by decide +kernel
theorem rsem_at : ∀ (s : Fin 3) (q : Fin 4) (inb : ∀ a, eOff s q a + S1x1x1.size a ≤ S2x3x2.size a),
    ((cc0_scratch7.slice (Rect.unit (s := S2x3x2) (eOff s q) S1x1x1.size inb)).squeeze S_ squeezes_S1x1x1_S_).sem = evSem (true, .inl (s, q)) := by decide +kernel
theorem ssem_of {s : Fin 3} {q : Fin 4} {off : Fin 3 → ℕ} (h : off = eOff s q) (inb : ∀ a, off a + S1x1x1.size a ≤ S2x3x2.size a) :
    ((cc0_scratch6.slice (Rect.unit (s := S2x3x2) off S1x1x1.size inb)).squeeze S_ squeezes_S1x1x1_S_).sem = evSem (false, .inl (s, q)) := by
  subst h; exact ssem_at s q inb
theorem rsem_of {s : Fin 3} {q : Fin 4} {off : Fin 3 → ℕ} (h : off = eOff s q) (inb : ∀ a, off a + S1x1x1.size a ≤ S2x3x2.size a) :
    ((cc0_scratch7.slice (Rect.unit (s := S2x3x2) off S1x1x1.size inb)).squeeze S_ squeezes_S1x1x1_S_).sem = evSem (true, .inl (s, q)) := by
  subst h; exact rsem_at s q inb
theorem asem_of (i : Fin 3) (inb : ∀ a, (![i.val] : Fin 1 → ℕ) a + S1.size a ≤ S3.size a) :
    ((cc0_scratch8.slice (Rect.unit (s := S3) ![i.val] S1.size inb)).squeeze S_ squeezes_S1_S_).sem = evSem (false, .inr i) := by
  revert i; decide +kernel
theorem arsem_of (i : Fin 3) (inb : ∀ a, (![i.rev.val] : Fin 1 → ℕ) a + S1.size a ≤ S3.size a) :
    ((cc0_scratch9.slice (Rect.unit (s := S3) ![i.rev.val] S1.size inb)).squeeze S_ squeezes_S1_S_).sem = evSem (true, .inr i) := by
  revert i; decide +kernel

/-- The semaphores of the copies a device makes within itself. -/
abbrev lsem (j : Fin 2) : DmaSem sig := (⟨30 + j.val, by have := j.isLt; show _ < 32; omega⟩ : Fin 32)
theorem lsem0 : ((cc0_scratch10.slice (Rect.unit (s := S2) ![0] S1.size inb_S2_S1_0)).squeeze S_ squeezes_S1_S_).sem = lsem 0 := by decide +kernel
theorem lsem1 : ((cc0_scratch10.slice (Rect.unit (s := S2) ![1] S1.size inb_S2_S1_1)).squeeze S_ squeezes_S1_S_).sem = lsem 1 := by decide +kernel
theorem lsem_ne : ∀ (j : Fin 2) (k : KC), csem k ≠ .dma (lsem j) := by decide +kernel

end Cert.KernelIdeal.Run

end
-- ==== Proof.KernelIdeal.Sched.lean ====
/-
  The protocol: the values that travel, what each cell's units carry, what every device owes, and in what order the
  cells may be waited for.

  THE SCHEDULE has one round. A barrier cell gets one unit from each neighbour: with it the neighbour hands over the
  receive slots this device will write there. The second neighbour's also hands over its slot 1 of the maximum,
  which is for the device after that: it travels on with the first ring copy of channel 1. A ring copy's send cell
  gives the send slot back, its receive cell the receive slot at the sum sent. A maximum copy's send cell gives a
  share of the source back, its receive cell the landing slot at the sender's maximum.

  THE ORDER: semaphores of local copies and send cells at 0, barriers at 1, ring receive cells of hop `s` at `s + 2`,
  the maximum's receive cells at 5. A device waits for hop `s` when all it owes is of hop `s + 1` and on.
-/
module

public import proofs.«01_k».proof.Proof.KernelIdeal.Common
public import Idealize.ShloMosaic.Lib.Transfers

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, the ring's cells', the counters of local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ)

/-! ## The values -/

/-- A row chunk of device `c`'s `x`, and a channel's columns of its `w`. -/
def X (c : Dev nD) (r : Fin 4) : Vec F S1024x1024 .f32 := (xS r).view.read (Elt F) (m ((c : Thread nD τ).loc main_arg0))
def Wb (c : Dev nD) (q : Fin 4) : Vec F S1024x2048 .f32 := (wS q).view.read (Elt F) (m ((c : Thread nD τ).loc main_arg1))
/-- Their product. -/
def dt (c : Dev nD) (r : Fin 4) (q : Fin 4) : Vec F S1x1024x2048 .f32 := k0_pay3 (X m c r) (Wb m c q)
/-- What device `c` sends at hop `s` on channel `q`. -/
def snd : ℕ → Dev nD → Fin 4 → Vec F S1024x2048 .bf16
  | 0, c, q => k0_pay1 (X m c (sc c q)) (Wb m c q)
  | s + 1, c, q => k0_pay2 (snd s (src c q) q) (dt m c (rc c q s) q)
/-- The finished sum of channel `q`, cut at zero. -/
def res (c : Dev nD) (q : Fin 4) : Vec F S1x1024x2048 .f32 := k0_pay8 (snd m 2 (src c q) q) (dt m c (rc c q 2) q)
set_option backward.proofsInPublic true in
def ch (k : ℕ) : Fin 4 := ⟨k % 4, Nat.mod_lt _ (by decide)⟩
/-- The maximum over the first `k` channels. -/
def mfold (c : Dev nD) : ℕ → F .f32
  | 0 => FloatOps.ofBits .f32 0x00000000#32
  | k + 1 => k0_pay9 (mfold c k) (snd m 2 (src c (ch k)) (ch k)) (dt m c (rc c (ch k) 2) (ch k))
def amx (c : Dev nD) : Vec F S8x128 .f32 := k0_pay10 (mfold m c 4)
/-- The other devices' maxima as they land. -/
def am3 (c : Dev nD) : Vec F S3x8x128 .f32 := fun i => amx m (up c ((i 0).val + 1)) (fun a => match a with | 0 => i 1 | 1 => i 2)
def fin (c : Dev nD) (q : Fin 4) : Vec F S1x1024x2048 .f32 := k0_pay11 (mfold m c 4) (am3 m c) (res m c q)

/-! ## Slots held -/

/-- A slot held at some contents. -/
def Any (c : Dev nD) {sp : Space} {s : Shape} {e : EltTy} (M : Memref sig .tc sp s e) : sProp 𝕄 :=
  iprop(∃ f, M.view.loc (c : Thread nD τ) ↦[M.view.set]{fullShare} f)
instance Any_storable (c : Dev nD) {sp : Space} {s : Shape} {e : EltTy} (M : Memref sig .tc sp s e) :
    BI.Storable (upEmb : UEmb _ 𝕄) (Any (F := F) c M) := by unfold Any; infer_instance

/-- The share of the maximum's source each of its three copies reads through. -/
def shr : Fin 3 → PosShare TreeShare
  | 0 => fullShare.left
  | 1 => fullShare.right.left
  | 2 => fullShare.right.right

/-! ## The schedule -/

/-- The receive slots channel `q` of device `c` writes, one per hop. -/
def lent (c : Dev nD) (q : Fin 4) : sProp 𝕄 := bigSep Finset.univ fun s : Fin 3 => Any (dst c q) (rS s q)
instance lent_storable (c : Dev nD) (q : Fin 4) : BI.Storable (upEmb : UEmb _ 𝕄) (lent (F := F) c q) := by unfold lent; infer_instance

def barPay (c : Dev nD) : Bool → sProp 𝕄
  | true => iprop(lent c 0 ∗ lent c 2 ∗ Any (up c 1) (mS 2) ∗ Any (up c 1) (mS 1))
  | false => iprop(lent c 1 ∗ lent c 3 ∗ Any (up c 3) (mS 0))
/-- What rides on a ring copy besides the slot: on channel 1's first, a landing slot of the maximum two devices on. -/
def rider (c : Dev nD) (s : Fin 3) (q : Fin 4) : sProp 𝕄 := if s = 0 ∧ q = 1 then Any (up c 2) (mS 1) else iprop(emp)
def sendPay (c : Dev nD) : Ev → sProp 𝕄
  | .inl (_, q) => Any c (sS q)
  | .inr i => owns (c : Thread nD τ) amM (shr i) (amx m c)
def recvPay (c : Dev nD) : Ev → sProp 𝕄
  | .inl (s, q) => iprop(owns (c : Thread nD τ) (rS s q) fullShare (snd m s.val (src c q) q) ∗ rider c s q)
  | .inr i => owns (c : Thread nD τ) (mS i.rev) fullShare (amx m (up c (3 - i.val)))
def kPay (c : Dev nD) : KC → Bool → sProp 𝕄
  | none, d => barPay c d
  | some (false, e), _ => sendPay m c e
  | some (true, e), _ => recvPay m c e

instance barPay_storable (c : Dev nD) (d : Bool) : BI.Storable (upEmb : UEmb _ 𝕄) (barPay (F := F) c d) := by
  cases d <;> unfold barPay <;> infer_instance
instance rider_storable (c : Dev nD) (s : Fin 3) (q : Fin 4) : BI.Storable (upEmb : UEmb _ 𝕄) (rider (F := F) c s q) := by
  unfold rider; split <;> infer_instance
instance sendPay_storable (c : Dev nD) (e : Ev) : BI.Storable (upEmb : UEmb _ 𝕄) (sendPay m c e) := by
  rcases e with ⟨s, q⟩ | i <;> unfold sendPay <;> infer_instance
instance recvPay_storable (c : Dev nD) (e : Ev) : BI.Storable (upEmb : UEmb _ 𝕄) (recvPay m c e) := by
  rcases e with ⟨s, q⟩ | i <;> unfold recvPay <;> infer_instance
instance kPay_storable (c : Dev nD) (k : KC) (d : Bool) : BI.Storable (upEmb : UEmb _ 𝕄) (kPay m c k d) := by
  rcases k with _ | ⟨_ | _, e⟩ <;> unfold kPay <;> infer_instance

def kDuties : KC → Finset Bool
  | none => Finset.univ
  | some _ => {false}
def kAmt : KC → ℕ
  | none => 1
  | some (_, e) => evN e
theorem kAmt_pos (k : KC) : 0 < kAmt k := by rcases k with _ | ⟨_, e⟩; exacts [Nat.one_pos, evN_pos e]

def rd : Rounds.Schedule (GSem nD τ sig) Bool 𝕄 where
  duties g r := if r = 0 ∧ g.1.2 = .tc then (match dec g.2 with | some k => kDuties k | none => ∅) else ∅
  unitless _ := False
  amount g _ _ := match dec g.2 with | some k => kAmt k | none => 1
  payload g _ d := match dec g.2 with | some k => kPay m g.1.1 k d | none => iprop(emp)
  amount_pos g _ _ _ := by
    cases dec g.2 with
    | none => exact Nat.one_pos
    | some k => exact kAmt_pos k

instance rd_payload_storable (g : GSem nD τ sig) (r : ℕ) (d : Bool) :
    BI.Storable (upEmb : UEmb _ 𝕄) ((rd m).payload g r d) := by
  show BI.Storable upEmb (match dec g.2 with | some k => kPay m g.1.1 k d | none => iprop(emp))
  cases dec g.2 <;> infer_instance

section Sched
variable (c : Dev nD) (k : KC)

theorem duties_cell : (rd m).duties (cell c k) 0 = kDuties k := by
  dsimp only [rd]; rw [if_pos ⟨rfl, rfl⟩, dec_csem]
theorem duties_later (g : GSem nD τ sig) : ∀ r, 1 ≤ r → (rd m).duties g r = ∅ :=
  fun r hr => by dsimp only [rd]; rw [if_neg fun h => by omega]
theorem amount_cell (d : Bool) : (rd m).amount (cell c k) 0 d = kAmt k := by
  dsimp only [rd]; rw [dec_csem]
theorem payload_cell (d : Bool) : (rd m).payload (cell c k) 0 d = kPay m c k d := by
  dsimp only [rd]; rw [dec_csem]
theorem expect_bar : (rd m).expect (cell c none) 0 = 2 := by
  unfold Schedule.expect Schedule.amountOf
  rw [duties_cell, Finset.sum_congr rfl fun d _ => amount_cell m c none d]; rfl
theorem expect_ev (b : Bool) (e : Ev) : (rd m).expect (cell c (some (b, e))) 0 = evN e := by
  unfold Schedule.expect Schedule.amountOf
  rw [duties_cell]; unfold kDuties; rw [Finset.sum_singleton, amount_cell]; rfl
theorem rest_bar : bigSep ((rd m).duties (cell c none) 0 \ ∅) (fun d => (rd m).payload (cell c none) 0 d)
    = iprop(barPay c false ∗ barPay c true) := by
  rw [Finset.sdiff_empty, duties_cell]; unfold kDuties
  rw [bigSep_univ_eq_bigSepL [false, true] (by decide) (by decide), bigSepL_cons_cons, bigSepL_singleton,
    payload_cell, payload_cell]
  rfl
theorem rest_ev (b : Bool) (e : Ev) :
    bigSep ((rd m).duties (cell c (some (b, e))) 0 \ ∅) (fun d => (rd m).payload (cell c (some (b, e))) 0 d)
      = kPay m c (some (b, e)) false := by
  rw [Finset.sdiff_empty, duties_cell]; unfold kDuties
  rw [bigSep_singleton, payload_cell]

end Sched

/-! ## What a device owes; the levels -/

/-- The copies a device sends, in the order it sends them. -/
def evs : List Ev :=
  [.inl (0, 0), .inl (0, 1), .inl (0, 2), .inl (0, 3), .inl (1, 0), .inl (1, 1), .inl (1, 2), .inl (1, 3),
   .inl (2, 0), .inl (2, 1), .inl (2, 2), .inl (2, 3), .inr 0, .inr 1, .inr 2]
/-- Its copies in order: `evs` from the `n`-th on is the `n`-th and then the rest. -/
theorem evs_ring : ∀ (s : Fin 3) (q : Fin 4), evs.drop (4 * s.val + q.val) = .inl (s, q) :: evs.drop (4 * s.val + q.val + 1) := by decide
theorem evs_max : ∀ i : Fin 3, evs.drop (12 + i.val) = .inr i :: evs.drop (12 + i.val + 1) := by decide

def OL (c : Dev nD) : List Ev → CellTallies nD τ sig Unit
  | [] => 0
  | e :: l => OL c l + tallyAt (cell (evDst c e) (some (true, e))) () (evN e)
/-- What is still owed once `n` copies are sent. -/
def Ow (c : Dev nD) (n : ℕ) : CellTallies nD τ sig Unit := OL c (evs.drop n)
theorem Ow_ring (c : Dev nD) (s : Fin 3) (q : Fin 4) :
    Ow c (4 * s.val + q.val) = Ow c (4 * s.val + q.val + 1) + tallyAt (cell (dst c q) (some (true, .inl (s, q)))) () NB := by
  unfold Ow; rw [evs_ring]; rfl
theorem Ow_max (c : Dev nD) (i : Fin 3) :
    Ow c (12 + i.val) = Ow c (12 + i.val + 1) + tallyAt (cell (up c (i.val + 1)) (some (true, .inr i))) () NA := by
  unfold Ow; rw [evs_max]; rfl
theorem Ow_end (c : Dev nD) : Ow c 15 = 0 := rfl

def O₁ (c : Dev nD) : CellTallies nD τ sig Unit := Ow c 0 + tallyAt (cell (up c 1) none) () 1
def O₀ (c : Dev nD) : CellTallies nD τ sig Unit := O₁ c + tallyAt (cell (up c 3) none) () 1

def L (g : GSem nD τ sig) : Finset Unit := if g.1.2 = .tc then {()} else ∅
def kLv : KC → ℕ
  | none => 1
  | some (true, .inl (s, _)) => s.val + 2
  | some (true, .inr _) => 5
  | some (false, _) => 0
def lvS (sm : SemLoc sig) : ℕ := match dec sm with | some k => kLv k | none => 0
def lv (g : GSem nD τ sig) (_ : Unit) : ℕ := lvS g.2
theorem lvS_csem (k : KC) : lvS (csem k) = kLv k := by unfold lvS; rw [dec_csem]

theorem L_of_ne (g : GSem nD τ sig) (h : g.1.2 ≠ .tc) : L g = ∅ := if_neg h
theorem L_tc (c : Dev nD) (sm : SemLoc sig) : L ((c : Thread nD τ), sm) = {()} := if_pos rfl

theorem OL_pos {c : Dev nD} {l : List Ev} {g : GSem nD τ sig} {u : Unit} (h : 0 < OL c l g u) :
    ∃ e ∈ l, g = cell (evDst c e) (some (true, e)) := by
  induction l with
  | nil => exact absurd h (Nat.lt_irrefl 0)
  | cons e l ih =>
    unfold OL at h
    rw [Pi.add_apply, Finsupp.add_apply, tallyAt_apply] at h
    by_cases hg : g = cell (evDst c e) (some (true, e))
    · exact ⟨e, List.mem_cons_self, hg⟩
    · rw [if_neg (fun h' => hg h'.1)] at h
      obtain ⟨e', he', h'⟩ := ih h
      exact ⟨e', List.mem_cons_of_mem _ he', h'⟩

/-- A semaphore below everything still owed may be waited for. -/
theorem mayWait_Ow (c : Dev nD) (n : ℕ) (sm : SemLoc sig) (h : ∀ e ∈ evs.drop n, lvS sm < kLv (some (true, e))) :
    (levAts L lv : sProp 𝕄) ⊢ MayWait (c : Thread nD τ) sm () (Ow c n) :=
  MayOwe.of_cut (L := L) (lev := lv) (lvS sm) (fun p hp => by rw [Finset.mem_singleton.mp hp, L_tc]; exact Finset.mem_singleton_self _)
    (fun g u hg => by obtain ⟨e, he, rfl⟩ := OL_pos hg; exact Finset.mem_singleton_self _)
    (fun p hp => by rw [Finset.mem_singleton.mp hp]; exact le_refl _)
    (fun g u hg => by
      obtain ⟨e, he, rfl⟩ := OL_pos hg
      show lvS sm < lvS (csem (some (true, e)))
      rw [lvS_csem]; exact h e he)

theorem kLv_pos : ∀ e : Ev, 0 < kLv (some (true, e)) := by decide

theorem mayWait_low (c : Dev nD) (n : ℕ) (sm : SemLoc sig) (h : lvS sm = 0) :
    (levAts L lv : sProp 𝕄) ⊢ MayWait (c : Thread nD τ) sm () (Ow c n) :=
  mayWait_Ow c n sm fun e _ => by rw [h]; exact kLv_pos e

/-! ## What the launch hands a device -/

/-- Every cell's invariant, at the names the launch gave them, and that every cell has reached round 0. -/
def invs (K : Dev nD × KC → ℕ) : sProp 𝕄 :=
  iprop((bigSep Finset.univ fun ck : Dev nD × KC => cellInv ER (rd m) (K ck) (cell ck.1 ck.2))
    ∗ bigSep Finset.univ fun ck : Dev nD × KC => reached ER (cell ck.1 ck.2) 0)
instance invs_persistent (K : Dev nD × KC → ℕ) : BI.Persistent (invs m K) := by unfold invs; infer_instance

theorem inv_at (K : Dev nD × KC → ℕ) (c : Dev nD) (k : KC) : invs m K ⊢ cellInv ER (rd m) (K (c, k)) (cell c k) := by
  unfold invs; exact sep_elim_left.trans (bigSep_elim (Finset.mem_univ (c, k)))
theorem reached_at (K : Dev nD × KC → ℕ) (c : Dev nD) (k : KC) : invs m K ⊢ reached ER (cell c k) 0 := by
  unfold invs; exact sep_elim_right.trans (bigSep_elim (Finset.mem_univ (c, k)))

end Cert.KernelIdeal.Run

end
-- ==== Proof.KernelIdeal.Rules.lean ====
/-
  One rule per kind of step the body makes, over the slots and cells of the ring: a copy within the device and the
  wait for it, a load or a store of a whole buffer or of a channel's part of the accumulator, a copy to another
  device, and the wait on one of the device's own cells. Each takes the program's memrefs and semaphores as variables
  with an equation to the ring's own.
-/
module

public import proofs.«01_k».proof.Proof.KernelIdeal.Forms
public import proofs.«01_k».proof.Proof.KernelIdeal.Sched

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

theorem lvS_lsem (j : Fin 2) : lvS (.dma (lsem j)) = 0 := by
  have h : ¬ ∃ k, csem k = (.dma (lsem j) : SemLoc sig) := fun ⟨k, hk⟩ => lsem_ne j k hk
  unfold lvS dec; rw [dif_neg h]

/-- What is owed once `n` copies are sent, whatever has been waited for. -/
def OwW (c : Dev nD) (n : ℕ) : sProp 𝕄 := iprop(∃ W, owes (c : Thread nD τ) (Ow c n) W)

section Rules

variable (c : Dev nD) {sp sp' : Space} {s : Shape} {e : EltTy}

theorem any_of_owns {M : Memref sig .tc sp s e} {x : s.Idx → Elt F e} : owns (c : Thread nD τ) M fullShare x ⊢ Any c M := by
  unfold owns Any; iintro ⟨%f, -, H⟩; iexists f; iexact H

/-- A copy within the device, from a slot held whole or in part, and the wait for it. -/
theorem wp_copy {α : Type} {Q : α → sProp 𝕄} {k : PUnit → Prog (TpuEff nD τ sig (Elt F) Λ₀ .tc) α}
    {S S' : Memref sig .tc sp s e} {D D' : Memref sig .tc sp' s e} {sem sem' : DmaSem sig} {hsrc hdst hsem}
    (j : Fin 2) (n : ℕ) (hS : S = S') (hD : D = D') (hj : sem = lsem j) (hj' : sem' = lsem j) (hc : 0 < D'.view.dmaCredit)
    {Sw : Memref sig .tc sp s e} {hsrc' : Sw.view.WordExact} {hdst' : D.view.WordExact} {qs : PosShare TreeShare} {x : s.Idx → Elt F e} :
    iprop(levAts L lv ∗ owns (c : Thread nD τ) S' qs x ∗ Any c D' ∗ semVal ((c : Thread nD τ), .dma (lsem j)) 0 ∗ OwW c n)
      ⊢ iprop(((owns (c : Thread nD τ) S' qs x ∗ owns (c : Thread nD τ) D' fullShare x ∗ semVal ((c : Thread nD τ), .dma (lsem j)) 0 ∗ OwW c n)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma S (.here D) (.dma sem) hsrc hdst hsem) fun _ => .op (.waitDma2 sem' Sw D hsrc' hdst') k) Q) := by
  subst hS hD hj hj'
  unfold OwW
  iintro ⟨#Hlev, Hs, Hd, Hv, ⟨%W, HO⟩⟩ Hk
  unfold owns Any
  icases Hs with ⟨%fs, %hfs, Hs⟩
  icases Hd with ⟨%fd, Hd⟩
  iapply (Transfers.wp_dmaLocal EC 𝒱₀ (c : Thread nD τ) none () D.view.dmaCredit rfl hc (Finset.Subset.refl _)) $$ [Hs Hd Hv]
  · isplitl [Hs]; · iexact Hs
    isplitl [Hd]; · iexact Hd
    iexact Hv
  iintro HF
  iapply (Transfers.wp_waitLocalO EC 𝒱₀ (c : Thread nD τ) none () rfl (O := Ow c n) (W := W)) $$ [HF HO]
  · isplitl [HF]; · iexact HF
    isplitl [HO]; · iexact HO
    iapply (mayWait_low c n (.dma (lsem j)) (lvS_lsem j)); iexact Hlev
  iintro ⟨⟨Hd, Hs⟩, Hv, HO⟩
  iapply Hk
  isplitl [Hs]
  · iexists fs; isplitr; · ipureintro; exact hfs
    iexact Hs
  isplitl [Hd]
  · iexists _; isplitr
    rotate_left
    · iexact Hd
    · ipureintro; rw [View.read_write_univ]; exact hfs
  isplitl [Hv]; · iexact Hv
  iexists _; iexact HO

/-- The same out of a slice of an array held whole. -/
theorem wp_copy_of {α : Type} {Q : α → sProp 𝕄} {k : PUnit → Prog (TpuEff nD τ sig (Elt F) Λ₀ .tc) α}
    {S S' : Memref sig .tc sp s e} {D D' : Memref sig .tc sp' s e} {sem sem' : DmaSem sig} {hsrc hdst hsem}
    (j : Fin 2) (n : ℕ) (hS : S = S') (hD : D = D') (hj : sem = lsem j) (hj' : sem' = lsem j) (hc : 0 < D'.view.dmaCredit)
    {Sw : Memref sig .tc sp s e} {hsrc' : Sw.view.WordExact} {hdst' : D.view.WordExact} (f : Buf (Elt F) (S'.view.loc (c : Thread nD τ))) :
    iprop(levAts L lv ∗ (S'.view.loc (c : Thread nD τ) ↦{fullShare} f) ∗ Any c D' ∗ semVal ((c : Thread nD τ), .dma (lsem j)) 0 ∗ OwW c n)
      ⊢ iprop((((S'.view.loc (c : Thread nD τ) ↦{fullShare} f) ∗ owns (c : Thread nD τ) D' fullShare (S'.view.read (Elt F) f)
              ∗ semVal ((c : Thread nD τ), .dma (lsem j)) 0 ∗ OwW c n)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma S (.here D) (.dma sem) hsrc hdst hsem) fun _ => .op (.waitDma2 sem' Sw D hsrc' hdst') k) Q) := by
  subst hS hD hj hj'
  unfold OwW
  iintro ⟨#Hlev, Hs, Hd, Hv, ⟨%W, HO⟩⟩ Hk
  unfold owns Any
  ihave Hs2 := (pointsTo_split_subset (Finset.subset_univ S.view.set)).1 $$ Hs
  icases Hs2 with ⟨Hs, Hrest⟩
  icases Hd with ⟨%fd, Hd⟩
  iapply (Transfers.wp_dmaLocal EC 𝒱₀ (c : Thread nD τ) none () D.view.dmaCredit rfl hc (Finset.Subset.refl _)) $$ [Hs Hd Hv]
  · isplitl [Hs]; · iexact Hs
    isplitl [Hd]; · iexact Hd
    iexact Hv
  iintro HF
  iapply (Transfers.wp_waitLocalO EC 𝒱₀ (c : Thread nD τ) none () rfl (O := Ow c n) (W := W)) $$ [HF HO]
  · isplitl [HF]; · iexact HF
    isplitl [HO]; · iexact HO
    iapply (mayWait_low c n (.dma (lsem j)) (lvS_lsem j)); iexact Hlev
  iintro ⟨⟨Hd, Hs⟩, Hv, HO⟩
  iapply Hk
  isplitl [Hs Hrest]
  · iapply (pointsTo_split_subset (Finset.subset_univ S.view.set)).2
    isplitl [Hs] <;> iassumption
  isplitl [Hd]
  · iexists _; isplitr
    rotate_left
    · iexact Hd
    · ipureintro; exact View.read_write_univ _ _
  isplitl [Hv]; · iexact Hv
  iexists _; iexact HO

/-- A load of a whole buffer. -/
theorem wp_ldw {α : Type} {Q : α → sProp 𝕄} {cs : CoreSpace} (M : Memref sig .tc cs s e) {off : Fin s.rank → ℕ} {inb : ∀ a, off a + s.size a ≤ s.size a}
    {hl : M.view.LoadsAt (Rect.unit off s.size inb).toLoadRect} {qs : PosShare TreeShare} {x : s.Idx → Elt F e}
    {k : (s.Idx → Elt F e) → Prog (TpuEff nD τ sig (Elt F) Λ₀ .tc) α} :
    owns (c : Thread nD τ) M qs x
      ⊢ iprop((owns (c : Thread nD τ) M qs x -∗ wp frame (wpE (defs₀ (F := F)) 𝒱₀ (c : Thread nD τ) none) Set.univ (k x) Q)
          -∗ wp frame (wpE (defs₀ (F := F)) 𝒱₀ (c : Thread nD τ) none) Set.univ (.op (.load M (Rect.unit off s.size inb).toLoadRect hl) k) Q) := by
  unfold owns
  iintro ⟨%f, %hf, H⟩ Hk
  iapply (wp_load 𝒱₀ (c : Thread nD τ) none Set.univ (m := M) (View.setOn_subset_set _ _)) $$ H
  iintro H
  rw [show M.view.readAt (Elt F) (Rect.unit off s.size inb).toLoadRect f = x from by
    rw [← hf]; funext y
    exact congrArg (M.view.read (Elt F) f) (funext fun a => Fin.ext (by
      show off a + 1 * (y a).val = (y a).val
      have := inb a; omega))]
  iapply Hk
  iexists f; isplitr; · ipureintro; exact hf
  iexact H

/-- A load whose value is not used. -/
theorem wp_lda {α : Type} {Q : α → sProp 𝕄} {cs : CoreSpace} (M : Memref sig .tc cs s e) {r : LoadRect s} {hl : M.view.LoadsAt r}
    {k : (r.shape.Idx → Elt F e) → Prog (TpuEff nD τ sig (Elt F) Λ₀ .tc) α} :
    Any c M
      ⊢ iprop((∀ v, Any c M -∗ wp frame (wpE (defs₀ (F := F)) 𝒱₀ (c : Thread nD τ) none) Set.univ (k v) Q)
          -∗ wp frame (wpE (defs₀ (F := F)) 𝒱₀ (c : Thread nD τ) none) Set.univ (.op (.load M r hl) k) Q) := by
  unfold Any
  iintro ⟨%f, H⟩ Hk
  iapply (wp_load 𝒱₀ (c : Thread nD τ) none Set.univ (m := M) (View.setOn_subset_set _ _)) $$ H
  iintro H
  iapply Hk $$ [H]
  iexists f; iexact H

theorem read_store_full {κ : Kind} (M : Memref sig κ sp s e) {off : Fin s.rank → ℕ} (inb : ∀ a, off a + s.size a ≤ s.size a)
    (f : M.view.ty.Contents (Elt F)) (w : s.Idx → Elt F e) :
    M.view.read (Elt F) ((M.access (Rect.unit off s.size inb)).write (Elt F) f w Finset.univ) = w := by
  funext y
  have he : (Rect.unit off s.size inb).emb y = y := funext fun a => Fin.ext (by
    show off a + 1 * (y a).val = (y a).val
    have := inb a; omega)
  have h := View.read_slice_write_emb (Val := Elt F) (v := M.view) (Rect.unit off s.size inb) f w (M := Finset.univ) (x := y) (Finset.mem_univ _)
  rw [he] at h; exact h

/-- A store of a whole buffer. -/
theorem wp_stw {α : Type} {Q : α → sProp 𝕄} {k : PUnit → Prog (TpuEff nD τ sig (Elt F) Λ₀ .tc) α}
    {cs : CoreSpace} (M : Memref sig .tc cs s e) {off : Fin s.rank → ℕ} {inb : ∀ a, off a + s.size a ≤ s.size a}
    {w : s.Idx → Elt F e} {hx : (M.access (Rect.unit off s.size inb)).Stores Finset.univ} {hm} :
    Any c M
      ⊢ iprop((owns (c : Thread nD τ) M fullShare w -∗ wp frame (wpE (defs₀ (F := F)) 𝒱₀ (c : Thread nD τ) none) Set.univ (k ⟨⟩) Q)
          -∗ wp frame (wpE (defs₀ (F := F)) 𝒱₀ (c : Thread nD τ) none) Set.univ
              (.op (.store M (Rect.unit off s.size inb) w Finset.univ hx hm) k) Q) := by
  unfold owns Any
  iintro ⟨%f, H⟩ Hk
  iapply (wp_store 𝒱₀ (c : Thread nD τ) none Set.univ (m := M) (r := Rect.unit off s.size inb) (Mk := Finset.univ)
    (Memref.setOn_access_subset M _ _)) $$ H
  iintro H
  iapply Hk
  iexists _; isplitr
  rotate_left
  · iexact H
  · ipureintro; exact read_store_full M inb f w

end Rules

/-! ## The accumulator -/

set_option backward.proofsInPublic true in
/-- The accumulator whose part for channel `q` is `V q`. -/
def gOf (V : Fin 4 → Vec F S1x1024x2048 .f32) : S2x1024x4096.Idx → F .f32 := fun i =>
  V ⟨(i 0).val + 2 * ((i 2).val / 2048), by have h0 : (i 0).val < 2 := (i 0).isLt; have h2 : (i 2).val < 4096 := (i 2).isLt; omega⟩
    (fun a => match a with
      | 0 => ⟨0, Nat.one_pos⟩
      | 1 => i 1
      | 2 => ⟨(i 2).val % 2048, Nat.mod_lt _ (by decide)⟩)

/-- A channel's part of it, as a slice. -/
abbrev gR (q : Fin 4) : Rect S2x1024x4096 := Rect.unit (s := S2x1024x4096) (sOff q) S1x1024x2048.size (sOff_inb q)

theorem gOf_emb (V : Fin 4 → Vec F S1x1024x2048 .f32) (q : Fin 4) (y : S1x1024x2048.Idx) : gOf V ((gR q).emb y) = V q y := by
  have h0 : (y 0).val < 1 := (y 0).isLt
  have h2 : (y 2).val < 2048 := (y 2).isLt
  have e0 : ((gR q).emb y 0).val = q.val % 2 + 1 * (y 0).val := rfl
  have e1 : ((gR q).emb y 1).val = 0 + 1 * (y 1).val := rfl
  have e2 : ((gR q).emb y 2).val = 2048 * (q.val / 2) + 1 * (y 2).val := rfl
  unfold gOf
  congr 1
  · apply Fin.ext; show ((gR q).emb y 0).val + 2 * (((gR q).emb y 2).val / 2048) = q.val
    rw [e0, e2]; omega
  · funext a
    match a with
    | 0 => apply Fin.ext; show 0 = (y 0).val; omega
    | 1 => apply Fin.ext; show ((gR q).emb y 1).val = (y 1).val; omega
    | 2 => apply Fin.ext; show ((gR q).emb y 2).val % 2048 = (y 2).val; rw [e2]; omega

/-- Every index of the accumulator is in some channel's part. -/
theorem exists_gR (i : S2x1024x4096.Idx) : ∃ (q : Fin 4) (y : S1x1024x2048.Idx), (gR q).emb y = i := by
  have h0 : (i 0).val < 2 := (i 0).isLt
  have h2 : (i 2).val < 4096 := (i 2).isLt
  refine ⟨⟨(i 0).val + 2 * ((i 2).val / 2048), by omega⟩, ((fun a => match a with
      | 0 => ⟨0, Nat.one_pos⟩
      | 1 => i 1
      | 2 => ⟨(i 2).val % 2048, Nat.mod_lt _ (by decide)⟩) : S1x1024x2048.Idx), ?_⟩
  funext a
  match a with
  | 0 => apply Fin.ext; show ((i 0).val + 2 * ((i 2).val / 2048)) % 2 + 1 * 0 = (i 0).val; omega
  | 1 => apply Fin.ext; show 0 + 1 * (i 1).val = (i 1).val; omega
  | 2 => apply Fin.ext; show 2048 * (((i 0).val + 2 * ((i 2).val / 2048)) / 2) + 1 * ((i 2).val % 2048) = (i 2).val; omega

theorem gR_disj {q q' : Fin 4} {y y' : S1x1024x2048.Idx} (h : (gR q).emb y = (gR q').emb y') : q = q' := by
  have h0 : (y 0).val < 1 := (y 0).isLt
  have h2 : (y 2).val < 2048 := (y 2).isLt
  have h0' : (y' 0).val < 1 := (y' 0).isLt
  have h2' : (y' 2).val < 2048 := (y' 2).isLt
  have e0 : q.val % 2 + 1 * (y 0).val = q'.val % 2 + 1 * (y' 0).val := congrArg (fun i : S2x1024x4096.Idx => (i 0).val) h
  have e2 : 2048 * (q.val / 2) + 1 * (y 2).val = 2048 * (q'.val / 2) + 1 * (y' 2).val := congrArg (fun i : S2x1024x4096.Idx => (i 2).val) h
  apply Fin.ext; omega

theorem gOf_read (V : Fin 4 → Vec F S1x1024x2048 .f32) (q : Fin 4) :
    (gM : Memref sig .tc .vmem S2x1024x4096 .f32).view.readAt (Elt F) (gR q).toLoadRect (gOf V) = V q :=
  funext fun y => gOf_emb V q y

theorem read_access_emb {κ : Kind} {sp : Space} {s : Shape} {e : EltTy} (M : Memref sig κ sp s e) (r : Rect s) (f : M.view.ty.Contents (Elt F))
    (w : r.shape.Idx → Elt F e) (y : r.shape.Idx) :
    M.view.read (Elt F) ((M.access r).write (Elt F) f w Finset.univ) (r.emb y) = w y :=
  View.read_slice_write_emb (Val := Elt F) (v := M.view) r f w (Finset.mem_univ y)
theorem read_access_other {κ : Kind} {sp : Space} {s : Shape} {e : EltTy} (M : Memref sig κ sp s e) (r : Rect s) (f : M.view.ty.Contents (Elt F))
    (w : r.shape.Idx → Elt F e) (i : s.Idx) (h : ∀ y, r.emb y ≠ i) :
    M.view.read (Elt F) ((M.access r).write (Elt F) f w Finset.univ) i = M.view.read (Elt F) f i :=
  View.read_slice_write_of_not_mem (Val := Elt F) (v := M.view) r f w Finset.univ fun hm => by
    obtain ⟨y, -, hy⟩ := Finset.mem_map.mp hm; exact h y hy

theorem gOf_write (V : Fin 4 → Vec F S1x1024x2048 .f32) (q : Fin 4) (w : Vec F S1x1024x2048 .f32) :
    ((gM : Memref sig .tc .vmem S2x1024x4096 .f32).access (gR q)).write (Elt F) (gOf V) w Finset.univ = gOf (Function.update V q w) := by
  rw [← View.read_whole (Val := Elt F) cc0_scratch0 (((gM : Memref sig .tc .vmem S2x1024x4096 .f32).access (gR q)).write (Elt F) (gOf V) w Finset.univ)]
  funext i
  obtain ⟨q', y, rfl⟩ := exists_gR i
  rw [gOf_emb]
  by_cases hq : q' = q
  · subst hq
    rw [Function.update_self]
    exact read_access_emb gM (gR q') (gOf V) w y
  · rw [Function.update_of_ne hq, ← gOf_emb V q' y]
    exact read_access_other gM (gR q) (gOf V) w _ fun y' h => hq (gR_disj h).symm

/-- The accumulator held, channel by channel. -/
def gPts (c : Dev nD) (V : Fin 4 → Vec F S1x1024x2048 .f32) : sProp 𝕄 :=
  iprop((gM : Memref sig .tc .vmem S2x1024x4096 .f32).view.loc (c : Thread nD τ) ↦{fullShare} gOf V)

section GRules

variable (c : Dev nD)

/-- A load of a channel's part. -/
theorem wp_ldg {α : Type} {Q : α → sProp 𝕄} (V : Fin 4 → Vec F S1x1024x2048 .f32) (q : Fin 4) {off : Fin 3 → ℕ} (ho : off = sOff q) {inb : ∀ a, off a + S1x1024x2048.size a ≤ S2x1024x4096.size a}
    {hl : (gM : Memref sig .tc .vmem S2x1024x4096 .f32).view.LoadsAt (Rect.unit (s := S2x1024x4096) off S1x1024x2048.size inb).toLoadRect}
    {k : (S1x1024x2048.Idx → Elt F .f32) → Prog (TpuEff nD τ sig (Elt F) Λ₀ .tc) α} :
    gPts c V
      ⊢ iprop((gPts c V -∗ wp frame (wpE (defs₀ (F := F)) 𝒱₀ (c : Thread nD τ) none) Set.univ (k (V q)) Q)
          -∗ wp frame (wpE (defs₀ (F := F)) 𝒱₀ (c : Thread nD τ) none) Set.univ
              (.op (.load (gM : Memref sig .tc .vmem S2x1024x4096 .f32) (Rect.unit (s := S2x1024x4096) off S1x1024x2048.size inb).toLoadRect hl) k) Q) := by
  subst ho
  unfold gPts
  iintro H Hk
  iapply (wp_load 𝒱₀ (c : Thread nD τ) none Set.univ (m := gM) (Finset.subset_univ _)) $$ H
  iintro H
  rw [gOf_read]
  iapply Hk; iexact H

/-- A store of a channel's part. -/
theorem wp_stg {α : Type} {Q : α → sProp 𝕄} (V : Fin 4 → Vec F S1x1024x2048 .f32) (q : Fin 4) {off : Fin 3 → ℕ} (ho : off = sOff q) {inb : ∀ a, off a + S1x1024x2048.size a ≤ S2x1024x4096.size a}
    {w : S1x1024x2048.Idx → Elt F .f32}
    {hx : ((gM : Memref sig .tc .vmem S2x1024x4096 .f32).access (Rect.unit (s := S2x1024x4096) off S1x1024x2048.size inb)).Stores Finset.univ} {hm}
    {k : PUnit → Prog (TpuEff nD τ sig (Elt F) Λ₀ .tc) α} :
    gPts c V
      ⊢ iprop((gPts c (Function.update V q w) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (gM : Memref sig .tc .vmem S2x1024x4096 .f32) (Rect.unit (s := S2x1024x4096) off S1x1024x2048.size inb) w Finset.univ hx hm) k) Q) := by
  subst ho
  unfold gPts
  iintro H Hk
  iapply (wp_store 𝒱₀ (c : Thread nD τ) none Set.univ (m := gM) (r := gR q) (Mk := Finset.univ) (Finset.subset_univ _)) $$ H
  iintro H
  ihave H := (Entails.of_eq (congrArg (fun f => iprop((gM : Memref sig .tc .vmem S2x1024x4096 .f32).view.loc (c : Thread nD τ) ↦{fullShare} f)) (gOf_write V q w))) $$ H
  iapply Hk; iexact H

end GRules

/-! ## Copies to other devices -/

section Remote

variable (K : Dev nD × KC → ℕ) (c : Dev nD)

/-- The tokens of a copy's two duties. -/
def toks (e : Ev) : sProp 𝕄 :=
  iprop(dutyTok ER (cell c (some (false, e))) 0 false ∗ dutyTok ER (cell (evDst c e) (some (true, e))) 0 false)

theorem amount_rS (s : Fin 3) (q : Fin 4) : (rS s q).view.dmaCredit = NB := by
  unfold NB; rfl
theorem amount_sS (q : Fin 4) : (sS q).view.dmaCredit = NB := by
  unfold NB; rfl
theorem amount_mS (j : Fin 3) : (mS j).view.dmaCredit = NA := by
  unfold NA; rfl

/-- The ring copy of hop `s` on channel `q`. -/
theorem wp_ring_send {α : Type} {Q : α → sProp 𝕄} {k : PUnit → Prog (TpuEff nD τ sig (Elt F) Λ₀ .tc) α}
    (s : Fin 3) (q : Fin 4) {n : Dev nD} {S D : Memref sig .tc .hbm S1024x2048 .bf16} {smS smR : DmaSem sig}
    (hn : n = dst c q) (hS : S = sS q) (hD : D = rS s q) (hsS : smS = evSem (false, .inl (s, q))) (hsR : smR = evSem (true, .inl (s, q)))
    {hsc : (D : Memref sig (Dev.tc n : Thread nD τ).2.kind .hbm S1024x2048 .bf16).view.ref.isScScratch = false} {hsrc hdst}
    {hsem : DmaTarget.Typed .hbm (.dma smR) (.remote (Dev.tc n : Thread nD τ) (D : Memref sig (Dev.tc n : Thread nD τ).2.kind .hbm S1024x2048 .bf16) (.dma smS) hsc)} :
    iprop(invs m K ∗ owns (c : Thread nD τ) (sS q) fullShare (snd m s.val c q) ∗ Any (dst c q) (rS s q) ∗ rider (dst c q) s q
        ∗ toks c (.inl (s, q)) ∗ OwW c (4 * s.val + q.val))
      ⊢ iprop(((cred (tallyAt (cell c (some (false, .inl (s, q)))) () NB) ∗ OwW c (4 * s.val + q.val + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma S (.remote (Dev.tc n : Thread nD τ) D (.dma smS) hsc) (.dma smR) hsrc hdst hsem) k) Q) := by
  subst hn hS hD hsS hsR
  unfold OwW toks
  iintro ⟨#HI, Hs, Hd, Hr, ⟨Ht1, Ht2⟩, ⟨%W, HO⟩⟩ Hk
  unfold owns Any
  icases Hs with ⟨%fs, %hfs, Hs⟩
  icases Hd with ⟨%fd, Hd⟩
  iapply (Rounds.wp_send_pointsTo_with 𝒱₀ ER (rd m) (c : Thread nD τ) none (κ₁ := K (c, some (false, .inl (s, q)))) (κ₂ := K (dst c q, some (true, .inl (s, q))))
    (r₁ := 0) (r₂ := 0) (d₁ := false) (d₂ := false) (fd := fd) (F := rider (dst c q) s q)
    (by rw [duties_cell m c (some (false, .inl (s, q)))]; exact Finset.mem_singleton_self _)
    (by show false ∈ (rd m).duties (cell (dst c q) (some (true, .inl (s, q)))) 0; rw [duties_cell]; exact Finset.mem_singleton_self _)
    () () NB ((View.amount_dma _ _).trans (amount_rS s q)) (amount_cell m c (some (false, .inl (s, q))) false) (amount_cell m (dst c q) (some (true, .inl (s, q))) false)
    (Ow c (4 * s.val + q.val + 1)) (Ow_ring c s q) (W := W)
    (by rw [payload_cell m c (some (false, .inl (s, q)))]; unfold kPay sendPay Any; iintro H; iexists fs; iexact H)
    (by
      refine BIBase.Entails.trans ?_ (Entails.of_eq (payload_cell m (dst c q) (some (true, .inl (s, q))) false).symm); unfold kPay recvPay owns
      iintro ⟨H, HR⟩
      isplitl [H]
      · iexists _; isplitr
        rotate_left
        · iexact H
        · ipureintro; rw [View.read_write_univ, hfs, src_dst]
      · iexact HR)) $$ [Hs Hd Hr Ht1 Ht2 HO]
  · isplitr; · iapply (inv_at m K c (some (false, .inl (s, q)))); iexact HI
    isplitr; · iapply (inv_at m K (dst c q) (some (true, .inl (s, q)))); iexact HI
    isplitl [Hs]; · iexact Hs
    isplitl [Hd Hr]; · isplitl [Hd] <;> iassumption
    isplitl [HO]; · iexact HO
    isplitl [Ht1]; · iexact Ht1
    isplitr; · iapply (reached_at m K c (some (false, .inl (s, q)))); iexact HI
    isplitl [Ht2]; · iexact Ht2
    iapply (reached_at m K (dst c q) (some (true, .inl (s, q)))); iexact HI
  iintro ⟨Hc, HO⟩
  iapply Hk
  isplitl [Hc]; · iexact Hc
  iexists W; iexact HO

/-- The copy of the maximum to the device `i + 1` places on. -/
theorem wp_max_send {α : Type} {Q : α → sProp 𝕄} {k : PUnit → Prog (TpuEff nD τ sig (Elt F) Λ₀ .tc) α}
    (i : Fin 3) {n : Dev nD} {S D : Memref sig .tc .vmem S8x128 .f32} {smS smR : DmaSem sig}
    (hn : n = up c (i.val + 1)) (hS : S = amM) (hD : D = mS i.rev) (hsS : smS = evSem (false, .inr i)) (hsR : smR = evSem (true, .inr i))
    {hsc : (D : Memref sig (Dev.tc n : Thread nD τ).2.kind .vmem S8x128 .f32).view.ref.isScScratch = false} {hsrc hdst}
    {hsem : DmaTarget.Typed .vmem (.dma smR) (.remote (Dev.tc n : Thread nD τ) (D : Memref sig (Dev.tc n : Thread nD τ).2.kind .vmem S8x128 .f32) (.dma smS) hsc)} :
    iprop(invs m K ∗ owns (c : Thread nD τ) amM (shr i) (amx m c) ∗ Any (up c (i.val + 1)) (mS i.rev)
        ∗ toks c (.inr i) ∗ OwW c (12 + i.val))
      ⊢ iprop(((cred (tallyAt (cell c (some (false, .inr i))) () NA) ∗ OwW c (12 + i.val + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma S (.remote (Dev.tc n : Thread nD τ) D (.dma smS) hsc) (.dma smR) hsrc hdst hsem) k) Q) := by
  subst hn hS hD hsS hsR
  unfold OwW toks
  iintro ⟨#HI, Hs, Hd, ⟨Ht1, Ht2⟩, ⟨%W, HO⟩⟩ Hk
  unfold owns Any
  icases Hs with ⟨%fs, %hfs, Hs⟩
  icases Hd with ⟨%fd, Hd⟩
  iapply (Rounds.wp_send_pointsTo 𝒱₀ ER (rd m) (c : Thread nD τ) none (κ₁ := K (c, some (false, .inr i))) (κ₂ := K (up c (i.val + 1), some (true, .inr i)))
    (r₁ := 0) (r₂ := 0) (d₁ := false) (d₂ := false) (fd := fd)
    (by rw [duties_cell m c (some (false, .inr i))]; exact Finset.mem_singleton_self _)
    (by show false ∈ (rd m).duties (cell (up c (i.val + 1)) (some (true, .inr i))) 0; rw [duties_cell]; exact Finset.mem_singleton_self _)
    () () NA ((View.amount_dma _ _).trans (amount_mS i.rev)) (amount_cell m c (some (false, .inr i)) false) (amount_cell m (up c (i.val + 1)) (some (true, .inr i)) false)
    (Ow c (12 + i.val + 1)) (Ow_max c i) (W := W)
    (by rw [payload_cell m c (some (false, .inr i))]; unfold kPay sendPay owns; iintro H; iexists fs
        isplitr; · ipureintro; exact hfs
        iexact H)
    (by
      refine BIBase.Entails.trans ?_ (Entails.of_eq (payload_cell m (up c (i.val + 1)) (some (true, .inr i)) false).symm); unfold kPay recvPay owns
      iintro H
      iexists _; isplitr
      rotate_left
      · iexact H
      · ipureintro; rw [View.read_write_univ, hfs, show up (up c (i.val + 1)) (3 - i.val) = c from evSrc_dst c (.inr i)])) $$ [Hs Hd Ht1 Ht2 HO]
  · isplitr; · iapply (inv_at m K c (some (false, .inr i))); iexact HI
    isplitr; · iapply (inv_at m K (up c (i.val + 1)) (some (true, .inr i))); iexact HI
    isplitl [Hs]; · iexact Hs
    isplitl [Hd]; · iexact Hd
    isplitl [HO]; · iexact HO
    isplitl [Ht1]; · iexact Ht1
    isplitr; · iapply (reached_at m K c (some (false, .inr i))); iexact HI
    isplitl [Ht2]; · iexact Ht2
    iapply (reached_at m K (up c (i.val + 1)) (some (true, .inr i))); iexact HI
  iintro ⟨Hc, HO⟩
  iapply Hk
  isplitl [Hc]; · iexact Hc
  iexists W; iexact HO

/-- A copy's cell before its wait: the credit for it, and its place. -/
def Pend (be : Bool × Ev) : sProp 𝕄 :=
  iprop(cred (tallyAt (cell c (some be)) () (evN be.2)) ∗ atPos ER (cell c (some be)) 0 ∅ 0)

/-- The wait on one of the device's own cells, which is then done with. -/
theorem wp_cell_wait {α : Type} {Q : α → sProp 𝕄} {k : PUnit → Prog (TpuEff nD τ sig (Elt F) Λ₀ .tc) α}
    (be : Bool × Ev) (n : ℕ) {sm : DmaSem sig} (hs : sm = evSem be) (hlv : ∀ e ∈ evs.drop n, kLv (some be) < kLv (some (true, e)))
    {sp sp' : Space} {s s' : Shape} {e e' : EltTy} {Sw : Memref sig .tc sp' s' e'} {D : Memref sig .tc sp s e} {hsrc hdst} (hN : D.view.dmaCredit = evN be.2) :
    iprop(invs m K ∗ levAts L lv ∗ Pend c be ∗ OwW c n)
      ⊢ iprop(((OwW c n ∗ semVal (cell c (some be)) 0 ∗ kPay m c (some be) false)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm Sw D hsrc hdst) k) Q) := by
  subst hs
  unfold OwW Pend
  iintro ⟨#HI, #Hlev, ⟨Hc, Hat⟩, ⟨%W, HO⟩⟩ Hk
  ihave #Hinv := (inv_at m K c (some be)) $$ HI
  iapply (Rounds.wp_wait_rest_token 𝒱₀ ER (rd m) (c : Thread nD τ) none (κ := K (c, some be))
      (wpE_waitDma2_eq 𝒱₀ (c : Thread nD τ) none Set.univ) (Set.mem_univ _) () (O := Ow c n) (W := W) (R := 0) (m := 0) (T := ∅)
      (by rw [Nat.zero_add, hN]; exact (expect_ev m c be.1 be.2).symm)) $$ [Hc HO Hat]
  · isplitr; · iexact Hinv
    isplitl [Hc]; · rw [hN]; iexact Hc
    isplitl [HO]; · iexact HO
    isplitr; · iapply (mayWait_Ow c n (.dma (evSem be)) (fun e he => by rw [show lvS (.dma (evSem be)) = kLv (some be) from lvS_csem (some be)]; exact hlv e he)); iexact Hlev
    iexact Hat
  iintro ⟨HO, Hat, -, Hpay⟩
  imod (Rounds.cell_close ER (rd m) (Set.mem_univ (K (c, some be))) (fun h => h) (R := 0 + 1) (duties_later m (cell c (some be)))) $$ [Hat] with Hz
  · isplitr; · iexact Hinv
    iexact Hat
  iapply Hk
  isplitl [HO]; · iexists _; iexact HO
  isplitl [Hz]; · iexact Hz
  iapply (Entails.of_eq (rest_ev m c be.1 be.2)); iexact Hpay

end Remote

end Cert.KernelIdeal.Run

end
-- ==== Proof.KernelIdeal.Trips.lean ====
/-
  What one trip of each of the kernel's loops does, and the local resources every trip carries along.
-/
module

public import proofs.«01_k».proof.Proof.KernelIdeal.Rules

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KC → ℕ)

/-! ## Carried along -/

def aPts (c : Dev nD) : sProp 𝕄 := iprop((aM : Memref sig .tc .hbm S4096x1024 .f32).view.loc (c : Thread nD τ) ↦{fullShare} m ((c : Thread nD τ).loc main_arg0))
def bPts (c : Dev nD) : sProp 𝕄 := iprop((bM : Memref sig .tc .hbm S1024x8192 .f32).view.loc (c : Thread nD τ) ↦{fullShare} m ((c : Thread nD τ).loc main_arg1))

/-- The invariants and levels, the two semaphores of local copies at rest, what is still owed, and the arguments. -/
def LC (c : Dev nD) (n : ℕ) : sProp 𝕄 :=
  iprop(invs m K ∗ levAts L lv ∗ semVal ((c : Thread nD τ), .dma (lsem 0)) 0 ∗ semVal ((c : Thread nD τ), .dma (lsem 1)) 0
    ∗ OwW c n ∗ aPts m c ∗ bPts m c)

/-- A row chunk of `x` copied in, and a channel's columns of `w`; a channel's slot filled from the staging buffer, and
    the staging buffer from a received slot. -/
theorem cpx (c : Dev nD) (n : ℕ) (r : Fin 4) {α : Type} {Q : α → sProp 𝕄} {k : PUnit → Prog (TpuEff nD τ sig (Elt F) Λ₀ .tc) α}
    {S : Memref sig .tc .hbm S1024x1024 .f32} {D : Memref sig .tc .vmem S1024x1024 .f32} {sem sem' : DmaSem sig} {hsrc hdst hsem}
    (hS : S = (xS r)) (hD : D = xvM) (hj : sem = lsem 0) (hj' : sem' = lsem 0)
    {Sw : Memref sig .tc .hbm S1024x1024 .f32} {hsrc' : Sw.view.WordExact} {hdst' : D.view.WordExact} :
    iprop(LC m K c n ∗ Any c xvM)
      ⊢ iprop(((LC m K c n ∗ owns (c : Thread nD τ) xvM fullShare (X m c r)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma S (.here D) (.dma sem) hsrc hdst hsem) fun _ => .op (.waitDma2 sem' Sw D hsrc' hdst') k) Q) := by
  unfold LC aPts
  iintro ⟨⟨#HI, #Hlev, Hv0, Hv1, HO, Ha, Hb⟩, Hd⟩ Hk
  iapply (wp_copy_of c 0 n hS hD hj hj' (View.dmaCredit_pos _ (by decide)) (m ((c : Thread nD τ).loc main_arg0))) $$ [Ha Hd Hv0 HO]
  · isplitr; · iexact Hlev
    isplitl [Ha]; · iexact Ha
    isplitl [Hd]; · iexact Hd
    isplitl [Hv0] <;> iassumption
  iintro ⟨Ha, Hd, Hv0, HO⟩
  iapply Hk
  isplitr [Hd]
  · isplitr; · iexact HI
    isplitr; · iexact Hlev
    isplitl [Hv0]; · iexact Hv0
    isplitl [Hv1]; · iexact Hv1
    isplitl [HO]; · iexact HO
    isplitl [Ha]; · iexact Ha
    iexact Hb
  iexact Hd
theorem cpw (c : Dev nD) (n : ℕ) (q : Fin 4) {α : Type} {Q : α → sProp 𝕄} {k : PUnit → Prog (TpuEff nD τ sig (Elt F) Λ₀ .tc) α}
    {S : Memref sig .tc .hbm S1024x2048 .f32} {D : Memref sig .tc .vmem S1024x2048 .f32} {sem sem' : DmaSem sig} {hsrc hdst hsem}
    (hS : S = (wS q)) (hD : D = wvM) (hj : sem = lsem 0) (hj' : sem' = lsem 0)
    {Sw : Memref sig .tc .hbm S1024x2048 .f32} {hsrc' : Sw.view.WordExact} {hdst' : D.view.WordExact} :
    iprop(LC m K c n ∗ Any c wvM)
      ⊢ iprop(((LC m K c n ∗ owns (c : Thread nD τ) wvM fullShare (Wb m c q)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma S (.here D) (.dma sem) hsrc hdst hsem) fun _ => .op (.waitDma2 sem' Sw D hsrc' hdst') k) Q) := by
  unfold LC bPts
  iintro ⟨⟨#HI, #Hlev, Hv0, Hv1, HO, Ha, Hb⟩, Hd⟩ Hk
  iapply (wp_copy_of c 0 n hS hD hj hj' (View.dmaCredit_pos _ (by decide)) (m ((c : Thread nD τ).loc main_arg1))) $$ [Hb Hd Hv0 HO]
  · isplitr; · iexact Hlev
    isplitl [Hb]; · iexact Hb
    isplitl [Hd]; · iexact Hd
    isplitl [Hv0] <;> iassumption
  iintro ⟨Hb, Hd, Hv0, HO⟩
  iapply Hk
  isplitr [Hd]
  · isplitr; · iexact HI
    isplitr; · iexact Hlev
    isplitl [Hv0]; · iexact Hv0
    isplitl [Hv1]; · iexact Hv1
    isplitl [HO]; · iexact HO
    isplitl [Ha]; · iexact Ha
    iexact Hb
  iexact Hd
theorem cps (c : Dev nD) (n : ℕ) (q : Fin 4) {x : S1024x2048.Idx → Elt F .bf16} {α : Type} {Q : α → sProp 𝕄} {k : PUnit → Prog (TpuEff nD τ sig (Elt F) Λ₀ .tc) α}
    {S : Memref sig .tc .vmem S1024x2048 .bf16} {D : Memref sig .tc .hbm S1024x2048 .bf16} {sem sem' : DmaSem sig} {hsrc hdst hsem}
    (hS : S = wbM) (hD : D = (sS q)) (hj : sem = lsem 1) (hj' : sem' = lsem 1)
    {Sw : Memref sig .tc .vmem S1024x2048 .bf16} {hsrc' : Sw.view.WordExact} {hdst' : D.view.WordExact} :
    iprop(LC m K c n ∗ owns (c : Thread nD τ) wbM fullShare x ∗ Any c (sS q))
      ⊢ iprop(((LC m K c n ∗ owns (c : Thread nD τ) wbM fullShare x ∗ owns (c : Thread nD τ) (sS q) fullShare x) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma S (.here D) (.dma sem) hsrc hdst hsem) fun _ => .op (.waitDma2 sem' Sw D hsrc' hdst') k) Q) := by
  unfold LC
  iintro ⟨⟨#HI, #Hlev, Hv0, Hv1, HO, Ha, Hb⟩, Hs, Hd⟩ Hk
  iapply (wp_copy c 1 n hS hD hj hj' (View.dmaCredit_pos _ (by decide))) $$ [Hs Hd Hv1 HO]
  · isplitr; · iexact Hlev
    isplitl [Hs]; · iexact Hs
    isplitl [Hd]; · iexact Hd
    isplitl [Hv1] <;> iassumption
  iintro ⟨Hs, Hd, Hv1, HO⟩
  iapply Hk
  isplitr [Hs Hd]
  · isplitr; · iexact HI
    isplitr; · iexact Hlev
    isplitl [Hv0]; · iexact Hv0
    isplitl [Hv1]; · iexact Hv1
    isplitl [HO]; · iexact HO
    isplitl [Ha]; · iexact Ha
    iexact Hb
  isplitl [Hs] <;> iassumption
theorem cpr (c : Dev nD) (n : ℕ) (s : Fin 3) (q : Fin 4) {x : S1024x2048.Idx → Elt F .bf16} {α : Type} {Q : α → sProp 𝕄} {k : PUnit → Prog (TpuEff nD τ sig (Elt F) Λ₀ .tc) α}
    {S : Memref sig .tc .hbm S1024x2048 .bf16} {D : Memref sig .tc .vmem S1024x2048 .bf16} {sem sem' : DmaSem sig} {hsrc hdst hsem}
    (hS : S = (rS s q)) (hD : D = wbM) (hj : sem = lsem 0) (hj' : sem' = lsem 0)
    {Sw : Memref sig .tc .hbm S1024x2048 .bf16} {hsrc' : Sw.view.WordExact} {hdst' : D.view.WordExact} :
    iprop(LC m K c n ∗ owns (c : Thread nD τ) (rS s q) fullShare x ∗ Any c wbM)
      ⊢ iprop(((LC m K c n ∗ owns (c : Thread nD τ) (rS s q) fullShare x ∗ owns (c : Thread nD τ) wbM fullShare x) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma S (.here D) (.dma sem) hsrc hdst hsem) fun _ => .op (.waitDma2 sem' Sw D hsrc' hdst') k) Q) := by
  unfold LC
  iintro ⟨⟨#HI, #Hlev, Hv0, Hv1, HO, Ha, Hb⟩, Hs, Hd⟩ Hk
  iapply (wp_copy c 0 n hS hD hj hj' (View.dmaCredit_pos _ (by decide))) $$ [Hs Hd Hv0 HO]
  · isplitr; · iexact Hlev
    isplitl [Hs]; · iexact Hs
    isplitl [Hd]; · iexact Hd
    isplitl [Hv0] <;> iassumption
  iintro ⟨Hs, Hd, Hv0, HO⟩
  iapply Hk
  isplitr [Hs Hd]
  · isplitr; · iexact HI
    isplitr; · iexact Hlev
    isplitl [Hv0]; · iexact Hv0
    isplitl [Hv1]; · iexact Hv1
    isplitl [HO]; · iexact HO
    isplitl [Ha]; · iexact Ha
    iexact Hb
  isplitl [Hs] <;> iassumption

/-- A ring copy sent. -/
theorem send_ring (c : Dev nD) (s : Fin 3) (q : Fin 4) {α : Type} {Q : α → sProp 𝕄} {k : PUnit → Prog (TpuEff nD τ sig (Elt F) Λ₀ .tc) α}
    {n : Dev nD} {S D : Memref sig .tc .hbm S1024x2048 .bf16} {smS smR : DmaSem sig}
    (hn : n = dst c q) (hS : S = sS q) (hD : D = rS s q) (hsS : smS = evSem (false, .inl (s, q))) (hsR : smR = evSem (true, .inl (s, q)))
    {hsc : (D : Memref sig (Dev.tc n : Thread nD τ).2.kind .hbm S1024x2048 .bf16).view.ref.isScScratch = false} {hsrc hdst}
    {hsem : DmaTarget.Typed .hbm (.dma smR) (.remote (Dev.tc n : Thread nD τ) (D : Memref sig (Dev.tc n : Thread nD τ).2.kind .hbm S1024x2048 .bf16) (.dma smS) hsc)} :
    iprop(LC m K c (4 * s.val + q.val) ∗ owns (c : Thread nD τ) (sS q) fullShare (snd m s.val c q) ∗ Any (dst c q) (rS s q) ∗ rider (dst c q) s q
        ∗ toks c (.inl (s, q)))
      ⊢ iprop(((LC m K c (4 * s.val + q.val + 1) ∗ cred (tallyAt (cell c (some (false, .inl (s, q)))) () NB))
            -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma S (.remote (Dev.tc n : Thread nD τ) D (.dma smS) hsc) (.dma smR) hsrc hdst hsem) k) Q) := by
  unfold LC
  iintro ⟨⟨#HI, #Hlev, Hv0, Hv1, HO, Ha, Hb⟩, Hs, Hd, Hr, Ht⟩ Hk
  iapply (wp_ring_send m K c s q hn hS hD hsS hsR) $$ [HO Hs Hd Hr Ht]
  · isplitr; · iexact HI
    isplitl [Hs]; · iexact Hs
    isplitl [Hd]; · iexact Hd
    isplitl [Hr]; · iexact Hr
    isplitl [Ht] <;> iassumption
  iintro ⟨Hc, HO⟩
  iapply Hk
  isplitr [Hc]
  · isplitr; · iexact HI
    isplitr; · iexact Hlev
    isplitl [Hv0]; · iexact Hv0
    isplitl [Hv1]; · iexact Hv1
    isplitl [HO]; · iexact HO
    isplitl [Ha]; · iexact Ha
    iexact Hb
  iexact Hc

/-- The maximum sent. -/
theorem send_max (c : Dev nD) (i : Fin 3) {α : Type} {Q : α → sProp 𝕄} {k : PUnit → Prog (TpuEff nD τ sig (Elt F) Λ₀ .tc) α}
    {n : Dev nD} {S D : Memref sig .tc .vmem S8x128 .f32} {smS smR : DmaSem sig}
    (hn : n = up c (i.val + 1)) (hS : S = amM) (hD : D = mS i.rev) (hsS : smS = evSem (false, .inr i)) (hsR : smR = evSem (true, .inr i))
    {hsc : (D : Memref sig (Dev.tc n : Thread nD τ).2.kind .vmem S8x128 .f32).view.ref.isScScratch = false} {hsrc hdst}
    {hsem : DmaTarget.Typed .vmem (.dma smR) (.remote (Dev.tc n : Thread nD τ) (D : Memref sig (Dev.tc n : Thread nD τ).2.kind .vmem S8x128 .f32) (.dma smS) hsc)} :
    iprop(LC m K c (12 + i.val) ∗ owns (c : Thread nD τ) amM (shr i) (amx m c) ∗ Any (up c (i.val + 1)) (mS i.rev) ∗ toks c (.inr i))
      ⊢ iprop(((LC m K c (12 + i.val + 1) ∗ cred (tallyAt (cell c (some (false, .inr i))) () NA))
            -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma S (.remote (Dev.tc n : Thread nD τ) D (.dma smS) hsc) (.dma smR) hsrc hdst hsem) k) Q) := by
  unfold LC
  iintro ⟨⟨#HI, #Hlev, Hv0, Hv1, HO, Ha, Hb⟩, Hs, Hd, Ht⟩ Hk
  iapply (wp_max_send m K c i hn hS hD hsS hsR) $$ [HO Hs Hd Ht]
  · isplitr; · iexact HI
    isplitl [Hs]; · iexact Hs
    isplitl [Hd]; · iexact Hd
    isplitl [Ht] <;> iassumption
  iintro ⟨Hc, HO⟩
  iapply Hk
  isplitr [Hc]
  · isplitr; · iexact HI
    isplitr; · iexact Hlev
    isplitl [Hv0]; · iexact Hv0
    isplitl [Hv1]; · iexact Hv1
    isplitl [HO]; · iexact HO
    isplitl [Ha]; · iexact Ha
    iexact Hb
  iexact Hc

/-- A cell waited for. -/
theorem wait_cell (c : Dev nD) (be : Bool × Ev) (n : ℕ) {α : Type} {Q : α → sProp 𝕄} {k : PUnit → Prog (TpuEff nD τ sig (Elt F) Λ₀ .tc) α}
    {sm : DmaSem sig} (hs : sm = evSem be) (hlv : ∀ e ∈ evs.drop n, kLv (some be) < kLv (some (true, e)))
    {sp sp' : Space} {s s' : Shape} {e e' : EltTy} {Sw : Memref sig .tc sp' s' e'} {D : Memref sig .tc sp s e} {hsrc hdst} (hN : D.view.dmaCredit = evN be.2) :
    iprop(LC m K c n ∗ Pend c be)
      ⊢ iprop(((LC m K c n ∗ semVal (cell c (some be)) 0 ∗ kPay m c (some be) false) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm Sw D hsrc hdst) k) Q) := by
  unfold LC
  iintro ⟨⟨#HI, #Hlev, Hv0, Hv1, HO, Ha, Hb⟩, Hp⟩ Hk
  iapply (wp_cell_wait m K c be n hs hlv hN) $$ [HO Hp]
  · isplitr; · iexact HI
    isplitr; · iexact Hlev
    isplitl [Hp] <;> iassumption
  iintro ⟨HO, Hz, Hp⟩
  iapply Hk
  isplitr [Hz Hp]
  · isplitr; · iexact HI
    isplitr; · iexact Hlev
    isplitl [Hv0]; · iexact Hv0
    isplitl [Hv1]; · iexact Hv1
    isplitl [HO]; · iexact HO
    isplitl [Ha]; · iexact Ha
    iexact Hb
  isplitl [Hz] <;> iassumption

theorem lv_send (n : ℕ) (e : Ev) : ∀ e' ∈ evs.drop n, kLv (some (false, e)) < kLv (some (true, e')) := fun e' _ => kLv_pos e'
theorem lv_ring : ∀ (s : Fin 3) (q : Fin 4), ∀ e' ∈ evs.drop (4 * (s.val + 1) + q.val), kLv (some (true, .inl (s, q))) < kLv (some (true, e')) := by decide
theorem lv_last : ∀ (q : Fin 4), ∀ e' ∈ evs.drop 12, kLv (some (true, .inl (2, q))) < kLv (some (true, e')) := by decide
theorem hop_succ {n : ℕ} (h : n = 2) (k : Fin n) : (hopOut h k).val = (hopIn h k).val + 1 := by
  unfold hopOut hopIn; split <;> rfl
theorem hopIn_val {n : ℕ} (h : n = 2) (k : Fin n) : (hopIn h k).val = k.val := by
  unfold hopIn; split <;> rename_i h'
  · exact h'.symm
  · have := k.isLt; show 1 = k.val; omega

/-! ## A ring copy's stages -/

/-- Not sent; in flight both ways; done with. -/
def Rdy (c : Dev nD) (s : Fin 3) (q : Fin 4) : sProp 𝕄 :=
  iprop(Any (dst c q) (rS s q) ∗ toks c (.inl (s, q)) ∗ atPos ER (cell c (some (false, .inl (s, q)))) 0 ∅ 0 ∗ Pend c (true, .inl (s, q)))
def Fly (c : Dev nD) (s : Fin 3) (q : Fin 4) : sProp 𝕄 := iprop(Pend c (false, .inl (s, q)) ∗ Pend c (true, .inl (s, q)))
def Done (c : Dev nD) (s : Fin 3) (q : Fin 4) : sProp 𝕄 :=
  iprop(semVal (cell c (some (false, .inl (s, q)))) 0 ∗ semVal (cell c (some (true, .inl (s, q)))) 0 ∗ rider c s q)

/-! ## The loops' regions -/

abbrev tb1 (c : Dev nD) (v2 v4 v6 : BitVec 32) := k0_t1_body (F := F) aM (Memref.isWhole_whole _) bM (Memref.isWhole_whole _) oM (Memref.isWhole_whole _) rM (Memref.isWhole_whole _) sM (Memref.isWhole_whole _) gM (Memref.isWhole_whole _) xvM (Memref.isWhole_whole _) wvM (Memref.isWhole_whole _) wbM (Memref.isWhole_whole _) amM (Memref.isWhole_whole _) arM (Memref.isWhole_whole _) cc0_scratch6 cc0_scratch7 cc0_scratch8 cc0_scratch9 cc0_scratch10 c v2 v4 v6
abbrev tb2 (c : Dev nD) (v2 v4 v6 : BitVec 32) := k0_t2_body (F := F) aM (Memref.isWhole_whole _) bM (Memref.isWhole_whole _) oM (Memref.isWhole_whole _) rM (Memref.isWhole_whole _) sM (Memref.isWhole_whole _) gM (Memref.isWhole_whole _) xvM (Memref.isWhole_whole _) wvM (Memref.isWhole_whole _) wbM (Memref.isWhole_whole _) amM (Memref.isWhole_whole _) arM (Memref.isWhole_whole _) cc0_scratch6 cc0_scratch7 cc0_scratch8 cc0_scratch9 cc0_scratch10 c v2 v4 v6
abbrev tb3 (c : Dev nD) (v2 v4 v6 : BitVec 32) := k0_t3_body (F := F) aM (Memref.isWhole_whole _) bM (Memref.isWhole_whole _) oM (Memref.isWhole_whole _) rM (Memref.isWhole_whole _) sM (Memref.isWhole_whole _) gM (Memref.isWhole_whole _) xvM (Memref.isWhole_whole _) wvM (Memref.isWhole_whole _) wbM (Memref.isWhole_whole _) amM (Memref.isWhole_whole _) arM (Memref.isWhole_whole _) cc0_scratch6 cc0_scratch7 cc0_scratch8 cc0_scratch9 cc0_scratch10 c v2 v4 v6
abbrev tb4 (c : Dev nD) (v2 v4 v6 : BitVec 32) := k0_t4_body (F := F) aM (Memref.isWhole_whole _) bM (Memref.isWhole_whole _) oM (Memref.isWhole_whole _) rM (Memref.isWhole_whole _) sM (Memref.isWhole_whole _) gM (Memref.isWhole_whole _) xvM (Memref.isWhole_whole _) wvM (Memref.isWhole_whole _) wbM (Memref.isWhole_whole _) amM (Memref.isWhole_whole _) arM (Memref.isWhole_whole _) cc0_scratch6 cc0_scratch7 cc0_scratch8 cc0_scratch9 cc0_scratch10 c v2 v4 v6
abbrev tb7 (c : Dev nD) (v2 v4 v6 : BitVec 32) := k0_t7_body (F := F) aM (Memref.isWhole_whole _) bM (Memref.isWhole_whole _) oM (Memref.isWhole_whole _) rM (Memref.isWhole_whole _) sM (Memref.isWhole_whole _) gM (Memref.isWhole_whole _) xvM (Memref.isWhole_whole _) wvM (Memref.isWhole_whole _) wbM (Memref.isWhole_whole _) amM (Memref.isWhole_whole _) arM (Memref.isWhole_whole _) cc0_scratch6 cc0_scratch7 cc0_scratch8 cc0_scratch9 cc0_scratch10 c v2 v4 v6
abbrev tb8 (c : Dev nD) (v2 v4 v6 : BitVec 32) := k0_t8_body (F := F) aM (Memref.isWhole_whole _) bM (Memref.isWhole_whole _) oM (Memref.isWhole_whole _) rM (Memref.isWhole_whole _) sM (Memref.isWhole_whole _) gM (Memref.isWhole_whole _) xvM (Memref.isWhole_whole _) wvM (Memref.isWhole_whole _) wbM (Memref.isWhole_whole _) amM (Memref.isWhole_whole _) arM (Memref.isWhole_whole _) cc0_scratch6 cc0_scratch7 cc0_scratch8 cc0_scratch9 cc0_scratch10 c v2 v4 v6
abbrev tb5 (c : Dev nD) (v2 v4 v6 w0 w1 : BitVec 32) (k : Fin k0_t4_loop.trips) (a : BitVec 32) := k0_t5_body (F := F) aM (Memref.isWhole_whole _) bM (Memref.isWhole_whole _) oM (Memref.isWhole_whole _) rM (Memref.isWhole_whole _) sM (Memref.isWhole_whole _) gM (Memref.isWhole_whole _) xvM (Memref.isWhole_whole _) wvM (Memref.isWhole_whole _) wbM (Memref.isWhole_whole _) amM (Memref.isWhole_whole _) arM (Memref.isWhole_whole _) cc0_scratch6 cc0_scratch7 cc0_scratch8 cc0_scratch9 cc0_scratch10 c v2 v4 v6 w0 w1 k a
abbrev tb6 (c : Dev nD) (v2 v4 v6 w0 w1 : BitVec 32) (k : Fin k0_t4_loop.trips) := k0_t6_body (F := F) aM (Memref.isWhole_whole _) bM (Memref.isWhole_whole _) oM (Memref.isWhole_whole _) rM (Memref.isWhole_whole _) sM (Memref.isWhole_whole _) gM (Memref.isWhole_whole _) xvM (Memref.isWhole_whole _) wvM (Memref.isWhole_whole _) wbM (Memref.isWhole_whole _) amM (Memref.isWhole_whole _) arM (Memref.isWhole_whole _) cc0_scratch6 cc0_scratch7 cc0_scratch8 cc0_scratch9 cc0_scratch10 c v2 v4 v6 w0 w1 k
abbrev tb9 (c : Dev nD) (v2 v4 v6 : BitVec 32) (x : F .f32) := k0_t9_body (F := F) aM (Memref.isWhole_whole _) bM (Memref.isWhole_whole _) oM (Memref.isWhole_whole _) rM (Memref.isWhole_whole _) sM (Memref.isWhole_whole _) gM (Memref.isWhole_whole _) xvM (Memref.isWhole_whole _) wvM (Memref.isWhole_whole _) wbM (Memref.isWhole_whole _) amM (Memref.isWhole_whole _) arM (Memref.isWhole_whole _) cc0_scratch6 cc0_scratch7 cc0_scratch8 cc0_scratch9 cc0_scratch10 c v2 v4 v6 x
abbrev tb10 (x : F .f32) (v74 : BitVec 32) (a : Vec F S3x8x128 .f32) := k0_t10_body (F := F) aM (Memref.isWhole_whole _) bM (Memref.isWhole_whole _) oM (Memref.isWhole_whole _) rM (Memref.isWhole_whole _) sM (Memref.isWhole_whole _) gM (Memref.isWhole_whole _) xvM (Memref.isWhole_whole _) wvM (Memref.isWhole_whole _) wbM (Memref.isWhole_whole _) amM (Memref.isWhole_whole _) arM (Memref.isWhole_whole _) cc0_scratch6 cc0_scratch7 cc0_scratch8 cc0_scratch9 cc0_scratch10 x v74 a

section Trips
variable (c : Dev nD)

/-- The first product of channel `t` made and sent. -/
theorem trip1 (v2 v4 v6 : BitVec 32) (t : Fin k0_t1_loop.trips) (Kt : Unit → sProp 𝕄) :
    iprop((LC m K c t.val ∗ (Any c xvM ∗ Any c wvM ∗ Any c wbM) ∗ Any c (sS (chan trips1 t)) ∗ rider (dst c (chan trips1 t)) 0 (chan trips1 t) ∗ Rdy c 0 (chan trips1 t))
        ∗ ((LC m K c (t.val + 1) ∗ (Any c xvM ∗ Any c wvM ∗ Any c wbM) ∗ Fly c 0 (chan trips1 t)) -∗ Kt ⟨⟩))
      ⊢ wp frame (wpE (defs₀ (F := F)) 𝒱₀ (c : Thread nD τ) none) Set.univ (tb1 (F := F) c v2 v4 v6 t ⟨⟩) Kt := by
  have hn : 4 * (0 : Fin 3).val + (chan trips1 t).val = t.val := by show 4 * 0 + t.val = t.val; omega
  unfold tb1 k0_t1_body
  simp only [k0_part1_eq_skeleton, k0_part2_eq_skeleton]
  unfold k0_part1_skel k0_part2_skel
  simp only [Prog.lift, Prog.bind_op, Prog.bind_ret, Prog.pure_eq_ret]
  unfold Rdy
  iintro ⟨⟨HL, ⟨Hx, Hw, Hb⟩, Hs, Hr, Hd, Ht, Hat, Hp⟩, Hk⟩
  iapply (cpx m K c t.val (sc c (chan trips1 t)) (xS_of (off1_eq c t) (k0_off1_inb c t)) rfl lsem0 lsem0) $$ [HL Hx]
  · isplitl [HL] <;> iassumption
  iintro ⟨HL, Hx⟩
  iapply (cpw m K c t.val (chan trips1 t) (wS_of (off2_eq t) (k0_off2_inb t)) rfl lsem0 lsem0) $$ [HL Hw]
  · isplitl [HL] <;> iassumption
  iintro ⟨HL, Hw⟩
  iapply (wp_ldw c xvM) $$ Hx; iintro Hx
  iapply (wp_ldw c wvM) $$ Hw; iintro Hw
  iapply (wp_lda c wbM) $$ Hb; iintro %v Hb
  iapply (wp_stw c wbM) $$ Hb; iintro Hb
  iapply (cps m K c t.val (chan trips1 t) rfl (sS_of (off3_eq t) (k0_off3_inb t)) lsem1 lsem1) $$ [HL Hb Hs]
  · isplitl [HL]; · iexact HL
    isplitl [Hb] <;> iassumption
  iintro ⟨HL, Hb, Hs⟩
  iapply (send_ring m K c 0 (chan trips1 t) (dev3_eq c t) (sS_of (off3_eq t) (k0_off3_inb t)) (rS_of (off5_eq t) (k0_off5_inb t))
    (ssem_of (off4_eq t) (k0_off4_inb t)) (rsem_of (off4_eq t) (k0_off4_inb t))) $$ [HL Hs Hd Hr Ht]
  · rw [hn]
    isplitl [HL]; · iexact HL
    isplitl [Hs]; · iexact Hs
    isplitl [Hd]; · iexact Hd
    isplitl [Hr] <;> iassumption
  rw [hn]
  iintro ⟨HL, Hc⟩
  rw [wp_ret]; imodintro
  iapply Hk
  isplitl [HL]; · iexact HL
  isplitl [Hx Hw Hb]
  · isplitl [Hx]; · iapply (any_of_owns c) $$ Hx
    isplitl [Hw]; · iapply (any_of_owns c) $$ Hw
    iapply (any_of_owns c) $$ Hb
  unfold Fly Pend
  isplitl [Hc Hat]
  · isplitl [Hc]; · iexact Hc
    iexact Hat
  iexact Hp

/-- A product of `x` rows and a channel's columns put into the accumulator. -/
theorem trip2 (n : ℕ) (r : Fin 4) (V : Fin 4 → Vec F S1x1024x2048 .f32) (v2 v4 v6 : BitVec 32) (t : Fin k0_t2_loop.trips) (Kt : Unit → sProp 𝕄) :
    iprop((LC m K c n ∗ owns (c : Thread nD τ) xvM fullShare (X m c r) ∗ Any c wvM ∗ gPts c V)
        ∗ ((LC m K c n ∗ owns (c : Thread nD τ) xvM fullShare (X m c r) ∗ Any c wvM ∗ gPts c (Function.update V (chan0 trips2 t) (dt m c r (chan0 trips2 t)))) -∗ Kt ⟨⟩))
      ⊢ wp frame (wpE (defs₀ (F := F)) 𝒱₀ (c : Thread nD τ) none) Set.univ (tb2 (F := F) c v2 v4 v6 t ⟨⟩) Kt := by
  unfold tb2 k0_t2_body
  simp only [Prog.lift, Prog.bind_op, Prog.bind_ret, Prog.pure_eq_ret]
  iintro ⟨⟨HL, Hx, Hw, Hg⟩, Hk⟩
  iapply (cpw m K c n (chan0 trips2 t) (wS_of (off7_eq t) (k0_off7_inb t)) rfl lsem0 lsem0) $$ [HL Hw]
  · isplitl [HL] <;> iassumption
  iintro ⟨HL, Hw⟩
  iapply (wp_ldw c xvM) $$ Hx; iintro Hx
  iapply (wp_ldw c wvM) $$ Hw; iintro Hw
  iapply (wp_ldg c V (chan0 trips2 t) (off8_eq t)) $$ Hg; iintro Hg
  iapply (wp_stg c V (chan0 trips2 t) (off8_eq t)) $$ Hg; iintro Hg
  rw [wp_ret]; imodintro
  iapply Hk
  isplitl [HL]; · iexact HL
  isplitl [Hx]; · iexact Hx
  isplitl [Hw]; · iapply (any_of_owns c) $$ Hw
  iexact Hg
theorem trip3 (n : ℕ) (r : Fin 4) (V : Fin 4 → Vec F S1x1024x2048 .f32) (v2 v4 v6 : BitVec 32) (t : Fin k0_t3_loop.trips) (Kt : Unit → sProp 𝕄) :
    iprop((LC m K c n ∗ owns (c : Thread nD τ) xvM fullShare (X m c r) ∗ Any c wvM ∗ gPts c V)
        ∗ ((LC m K c n ∗ owns (c : Thread nD τ) xvM fullShare (X m c r) ∗ Any c wvM ∗ gPts c (Function.update V (chan1 trips3 t) (dt m c r (chan1 trips3 t)))) -∗ Kt ⟨⟩))
      ⊢ wp frame (wpE (defs₀ (F := F)) 𝒱₀ (c : Thread nD τ) none) Set.univ (tb3 (F := F) c v2 v4 v6 t ⟨⟩) Kt := by
  unfold tb3 k0_t3_body
  simp only [Prog.lift, Prog.bind_op, Prog.bind_ret, Prog.pure_eq_ret]
  iintro ⟨⟨HL, Hx, Hw, Hg⟩, Hk⟩
  iapply (cpw m K c n (chan1 trips3 t) (wS_of (off9_eq t) (k0_off9_inb t)) rfl lsem0 lsem0) $$ [HL Hw]
  · isplitl [HL] <;> iassumption
  iintro ⟨HL, Hw⟩
  iapply (wp_ldw c xvM) $$ Hx; iintro Hx
  iapply (wp_ldw c wvM) $$ Hw; iintro Hw
  iapply (wp_ldg c V (chan1 trips3 t) (off10_eq t)) $$ Hg; iintro Hg
  iapply (wp_stg c V (chan1 trips3 t) (off10_eq t)) $$ Hg; iintro Hg
  rw [wp_ret]; imodintro
  iapply Hk
  isplitl [HL]; · iexact HL
  isplitl [Hx]; · iexact Hx
  isplitl [Hw]; · iapply (any_of_owns c) $$ Hw
  iexact Hg
theorem trip6 (n : ℕ) (r : Fin 4) (V : Fin 4 → Vec F S1x1024x2048 .f32) (v2 v4 v6 w0 w1 : BitVec 32) (k : Fin k0_t4_loop.trips) (t : Fin k0_t6_loop.trips) (Kt : Unit → sProp 𝕄) :
    iprop((LC m K c n ∗ owns (c : Thread nD τ) xvM fullShare (X m c r) ∗ Any c wvM ∗ gPts c V)
        ∗ ((LC m K c n ∗ owns (c : Thread nD τ) xvM fullShare (X m c r) ∗ Any c wvM ∗ gPts c (Function.update V (chan0 trips6 t) (dt m c r (chan0 trips6 t)))) -∗ Kt ⟨⟩))
      ⊢ wp frame (wpE (defs₀ (F := F)) 𝒱₀ (c : Thread nD τ) none) Set.univ (tb6 (F := F) c v2 v4 v6 w0 w1 k t ⟨⟩) Kt := by
  unfold tb6 k0_t6_body
  simp only [Prog.lift, Prog.bind_op, Prog.bind_ret, Prog.pure_eq_ret]
  iintro ⟨⟨HL, Hx, Hw, Hg⟩, Hk⟩
  iapply (cpw m K c n (chan0 trips6 t) (wS_of (off18_eq t) (k0_off18_inb t)) rfl lsem0 lsem0) $$ [HL Hw]
  · isplitl [HL] <;> iassumption
  iintro ⟨HL, Hw⟩
  iapply (wp_ldw c xvM) $$ Hx; iintro Hx
  iapply (wp_ldw c wvM) $$ Hw; iintro Hw
  iapply (wp_ldg c V (chan0 trips6 t) (off19_eq t)) $$ Hg; iintro Hg
  iapply (wp_stg c V (chan0 trips6 t) (off19_eq t)) $$ Hg; iintro Hg
  rw [wp_ret]; imodintro
  iapply Hk
  isplitl [HL]; · iexact HL
  isplitl [Hx]; · iexact Hx
  isplitl [Hw]; · iapply (any_of_owns c) $$ Hw
  iexact Hg
theorem trip7 (n : ℕ) (r : Fin 4) (V : Fin 4 → Vec F S1x1024x2048 .f32) (v2 v4 v6 : BitVec 32) (t : Fin k0_t7_loop.trips) (Kt : Unit → sProp 𝕄) :
    iprop((LC m K c n ∗ owns (c : Thread nD τ) xvM fullShare (X m c r) ∗ Any c wvM ∗ gPts c V)
        ∗ ((LC m K c n ∗ owns (c : Thread nD τ) xvM fullShare (X m c r) ∗ Any c wvM ∗ gPts c (Function.update V (chan1 trips7 t) (dt m c r (chan1 trips7 t)))) -∗ Kt ⟨⟩))
      ⊢ wp frame (wpE (defs₀ (F := F)) 𝒱₀ (c : Thread nD τ) none) Set.univ (tb7 (F := F) c v2 v4 v6 t ⟨⟩) Kt := by
  unfold tb7 k0_t7_body
  simp only [Prog.lift, Prog.bind_op, Prog.bind_ret, Prog.pure_eq_ret]
  iintro ⟨⟨HL, Hx, Hw, Hg⟩, Hk⟩
  iapply (cpw m K c n (chan1 trips7 t) (wS_of (off20_eq t) (k0_off20_inb t)) rfl lsem0 lsem0) $$ [HL Hw]
  · isplitl [HL] <;> iassumption
  iintro ⟨HL, Hw⟩
  iapply (wp_ldw c xvM) $$ Hx; iintro Hx
  iapply (wp_ldw c wvM) $$ Hw; iintro Hw
  iapply (wp_ldg c V (chan1 trips7 t) (off21_eq t)) $$ Hg; iintro Hg
  iapply (wp_stg c V (chan1 trips7 t) (off21_eq t)) $$ Hg; iintro Hg
  rw [wp_ret]; imodintro
  iapply Hk
  isplitl [HL]; · iexact HL
  isplitl [Hx]; · iexact Hx
  isplitl [Hw]; · iapply (any_of_owns c) $$ Hw
  iexact Hg

/-- A channel's copy of one hop received, added to and sent on. -/
theorem trip5 (V : Fin 4 → Vec F S1x1024x2048 .f32) (v2 v4 v6 w0 w1 : BitVec 32) (k : Fin k0_t4_loop.trips) (a : BitVec 32) (t : Fin k0_t5_loop.trips)
    (hV : V (chan trips5 t) = dt m c (rc c (chan trips5 t) k.val) (chan trips5 t)) (Kt : Unit → sProp 𝕄) :
    iprop((LC m K c (4 * (k.val + 1) + t.val) ∗ Any c wbM ∗ gPts c V ∗ Fly c (hopIn trips4 k) (chan trips5 t) ∗ Rdy c (hopOut trips4 k) (chan trips5 t))
        ∗ ((LC m K c (4 * (k.val + 1) + (t.val + 1)) ∗ Any c wbM ∗ gPts c V ∗ Done c (hopIn trips4 k) (chan trips5 t) ∗ Fly c (hopOut trips4 k) (chan trips5 t)) -∗ Kt ⟨⟩))
      ⊢ wp frame (wpE (defs₀ (F := F)) 𝒱₀ (c : Thread nD τ) none) Set.univ (tb5 (F := F) c v2 v4 v6 w0 w1 k a t ⟨⟩) Kt := by
  have hi := hopIn_val trips4 k
  have ho : (hopOut trips4 k).val = k.val + 1 := (hop_succ trips4 k).trans (by rw [hi])
  have hn : 4 * (hopOut trips4 k).val + (chan trips5 t).val = 4 * (k.val + 1) + t.val := by rw [ho]; rfl
  have hlv := lv_ring (hopIn trips4 k) (chan trips5 t)
  rw [hi] at hlv
  have hsnd : k0_pay2 (snd m (hopIn trips4 k).val (src c (chan trips5 t)) (chan trips5 t)) (V (chan trips5 t)) = snd m (hopOut trips4 k).val c (chan trips5 t) := by
    rw [hV, ho, hi]; rfl
  have hne : ¬ (hopOut trips4 k = 0 ∧ chan trips5 t = 1) := fun h => by have := congrArg Fin.val h.1; rw [ho] at this; exact Nat.succ_ne_zero _ this
  unfold tb5 k0_t5_body
  simp only [k0_part3_eq_skeleton, k0_part4_eq_skeleton]
  unfold k0_part3_skel k0_part4_skel
  simp only [Prog.lift, Prog.bind_op, Prog.bind_ret, Prog.pure_eq_ret]
  unfold Rdy Fly
  iintro ⟨⟨HL, Hb, Hg, ⟨HpS, HpR⟩, Hd, Ht, Hat, Hp⟩, Hk⟩
  iapply (wait_cell m K c (true, .inl (hopIn trips4 k, chan trips5 t)) (4 * (k.val + 1) + t.val) (rsem_of (off11_eq k t) (k0_off11_inb k t)) hlv
    (by rw [rS_of (off12_eq k t) (k0_off12_inb k t)]; exact amount_rS _ _)) $$ [HL HpR]
  · isplitl [HL] <;> iassumption
  iintro ⟨HL, HzR, Hpay⟩
  unfold kPay recvPay
  icases Hpay with ⟨Hrs, Hrd⟩
  iapply (cpr m K c (4 * (k.val + 1) + t.val) (hopIn trips4 k) (chan trips5 t) (rS_of (off12_eq k t) (k0_off12_inb k t)) rfl lsem0 lsem0) $$ [HL Hrs Hb]
  · isplitl [HL]; · iexact HL
    isplitl [Hrs] <;> iassumption
  iintro ⟨HL, -, Hb⟩
  iapply (wp_ldw c wbM) $$ Hb; iintro Hb
  iapply (wp_ldg c V (chan trips5 t) (off14_eq t)) $$ Hg; iintro Hg
  iapply (wp_ldw c wbM) $$ Hb; iintro Hb
  ihave Hb := (any_of_owns c) $$ Hb
  iapply (wp_stw c wbM) $$ Hb; iintro Hb
  rw [hsnd]
  iapply (wait_cell m K c (false, .inl (hopIn trips4 k, chan trips5 t)) (4 * (k.val + 1) + t.val) (ssem_of (off11_eq k t) (k0_off11_inb k t)) (lv_send _ _)
    (by rw [sS_of (off13_eq t) (k0_off13_inb t)]; exact amount_sS _)) $$ [HL HpS]
  · isplitl [HL] <;> iassumption
  iintro ⟨HL, HzS, Hs⟩
  unfold kPay sendPay
  iapply (cps m K c (4 * (k.val + 1) + t.val) (chan trips5 t) rfl (sS_of (off13_eq t) (k0_off13_inb t)) lsem1 lsem1) $$ [HL Hb Hs]
  · isplitl [HL]; · iexact HL
    isplitl [Hb] <;> iassumption
  iintro ⟨HL, Hb, Hs⟩
  iapply (send_ring m K c (hopOut trips4 k) (chan trips5 t) (dev4_eq c t) (sS_of (off13_eq t) (k0_off13_inb t)) (rS_of (off16_eq k t) (k0_off16_inb k t))
    (ssem_of (off15_eq k t) (k0_off15_inb k t)) (rsem_of (off15_eq k t) (k0_off15_inb k t))) $$ [HL Hs Hd Ht]
  · rw [hn]
    isplitl [HL]; · iexact HL
    isplitl [Hs]; · iexact Hs
    isplitl [Hd]; · iexact Hd
    isplitr
    · unfold rider; rw [if_neg hne]; iempintro
    iexact Ht
  rw [hn]
  iintro ⟨HL, Hc⟩
  rw [wp_ret]; imodintro
  iapply Hk
  isplitl [HL]; · iexact HL
  isplitl [Hb]; · iapply (any_of_owns c) $$ Hb
  isplitl [Hg]; · iexact Hg
  isplitl [HzS HzR Hrd]
  · unfold Done
    isplitl [HzS]; · iexact HzS
    isplitl [HzR] <;> iassumption
  unfold Pend
  isplitl [Hc Hat]
  · isplitl [Hc]; · iexact Hc
    iexact Hat
  iexact Hp

/-- The last copy of a channel received: its finished sum, cut at zero, in the accumulator. -/
theorem trip8 (V : Fin 4 → Vec F S1x1024x2048 .f32) (v2 v4 v6 : BitVec 32) (t : Fin k0_t8_loop.trips) (acc : F .f32)
    (hV : V (chan trips8 t) = dt m c (rc c (chan trips8 t) 2) (chan trips8 t)) (Kt : F .f32 → sProp 𝕄) :
    iprop((LC m K c 12 ∗ Any c wbM ∗ gPts c V ∗ Pend c (true, .inl (2, chan trips8 t)))
        ∗ ((LC m K c 12 ∗ Any c wbM ∗ gPts c (Function.update V (chan trips8 t) (res m c (chan trips8 t))) ∗ semVal (cell c (some (true, .inl (2, chan trips8 t)))) 0)
            -∗ Kt (k0_pay9 acc (snd m 2 (src c (chan trips8 t)) (chan trips8 t)) (dt m c (rc c (chan trips8 t) 2) (chan trips8 t)))))
      ⊢ wp frame (wpE (defs₀ (F := F)) 𝒱₀ (c : Thread nD τ) none) Set.univ (tb8 (F := F) c v2 v4 v6 t acc) Kt := by
  unfold tb8 k0_t8_body
  simp only [k0_part6_eq_skeleton]
  unfold k0_part6_skel
  simp only [Prog.lift, Prog.bind_op, Prog.bind_ret, Prog.pure_eq_ret]
  iintro ⟨⟨HL, Hb, Hg, HpR⟩, Hk⟩
  iapply (wait_cell m K c (true, .inl (2, chan trips8 t)) 12 (rsem_of (off22_eq t) (k0_off22_inb t)) (lv_last _)
    (by rw [rS_of (off23_eq t) (k0_off23_inb t)]; exact amount_rS _ _)) $$ [HL HpR]
  · isplitl [HL] <;> iassumption
  iintro ⟨HL, HzR, Hpay⟩
  unfold kPay recvPay
  icases Hpay with ⟨Hrs, -⟩
  iapply (cpr m K c 12 2 (chan trips8 t) (rS_of (off23_eq t) (k0_off23_inb t)) rfl lsem0 lsem0) $$ [HL Hrs Hb]
  · isplitl [HL]; · iexact HL
    isplitl [Hrs] <;> iassumption
  iintro ⟨HL, -, Hb⟩
  iapply (wp_ldw c wbM) $$ Hb; iintro Hb
  iapply (wp_ldg c V (chan trips8 t) (off25_eq t)) $$ Hg; iintro Hg
  iapply (wp_ldg c V (chan trips8 t) (off25_eq t)) $$ Hg; iintro Hg
  iapply (wp_stg c V (chan trips8 t) (off25_eq t)) $$ Hg; iintro Hg
  rw [wp_ret]; imodintro
  rw [hV, show ((2 : Fin 3) : ℕ) = 2 from rfl]
  iapply Hk
  isplitl [HL]; · iexact HL
  isplitl [Hb]; · iapply (any_of_owns c) $$ Hb
  isplitl [Hg]; · iexact Hg
  iexact HzR

/-- A channel's last copy has left. -/
theorem trip9 (v2 v4 v6 : BitVec 32) (x : F .f32) (t : Fin k0_t9_loop.trips) (Kt : Unit → sProp 𝕄) :
    iprop((LC m K c 12 ∗ Pend c (false, .inl (2, chan trips9 t)))
        ∗ ((LC m K c 12 ∗ semVal (cell c (some (false, .inl (2, chan trips9 t)))) 0) -∗ Kt ⟨⟩))
      ⊢ wp frame (wpE (defs₀ (F := F)) 𝒱₀ (c : Thread nD τ) none) Set.univ (tb9 (F := F) c v2 v4 v6 x t ⟨⟩) Kt := by
  unfold tb9 k0_t9_body
  simp only [Prog.lift, Prog.bind_op, Prog.bind_ret, Prog.pure_eq_ret]
  iintro ⟨⟨HL, HpS⟩, Hk⟩
  iapply (wait_cell m K c (false, .inl (2, chan trips9 t)) 12 (ssem_of (off26_eq t) (k0_off26_inb t)) (lv_send _ _)
    (by rw [sS_of (off27_eq t) (k0_off27_inb t)]; exact amount_sS _)) $$ [HL HpS]
  · isplitl [HL] <;> iassumption
  iintro ⟨HL, HzS, -⟩
  rw [wp_ret]; imodintro
  iapply Hk
  isplitl [HL] <;> iassumption

/-- A channel's part rounded to the grid. -/
theorem trip10 (V : Fin 4 → Vec F S1x1024x2048 .f32) (x : F .f32) (v74 : BitVec 32) (a : Vec F S3x8x128 .f32) (t : Fin k0_t10_loop.trips) (Kt : Unit → sProp 𝕄) :
    iprop(gPts c V ∗ (gPts c (Function.update V (chan trips10 t) (k0_pay11 x a (V (chan trips10 t)))) -∗ Kt ⟨⟩))
      ⊢ wp frame (wpE (defs₀ (F := F)) 𝒱₀ (c : Thread nD τ) none) Set.univ (tb10 (F := F) x v74 a t ⟨⟩) Kt := by
  unfold tb10 k0_t10_body
  simp only [Prog.lift, Prog.bind_op, Prog.bind_ret, Prog.pure_eq_ret]
  iintro ⟨Hg, Hk⟩
  iapply (wp_ldg c V (chan trips10 t) (off29_eq t)) $$ Hg; iintro Hg
  iapply (wp_ldg c V (chan trips10 t) (off29_eq t)) $$ Hg; iintro Hg
  iapply (wp_stg c V (chan trips10 t) (off29_eq t)) $$ Hg; iintro Hg
  rw [wp_ret]; imodintro
  iapply Hk; iexact Hg

end Trips

end Cert.KernelIdeal.Run

end
-- ==== Proof.KernelIdeal.Loops.lean ====
/-
  The kernel's loops, each as a whole.
-/
module

public import proofs.«01_k».proof.Proof.KernelIdeal.Trips

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KC → ℕ)

/-! ## Four channels, the first `k` of them done -/

def All (f : Fin 4 → sProp 𝕄) : sProp 𝕄 := iprop(f 0 ∗ f 1 ∗ f 2 ∗ f 3)
def Chan (A B : Fin 4 → sProp 𝕄) (k : ℕ) : sProp 𝕄 := All fun q => if q.val < k then A q else B q

theorem chan_zero (A B : Fin 4 → sProp 𝕄) : Chan A B 0 = All B := by
  unfold Chan; congr 1
theorem chan_four (A B : Fin 4 → sProp 𝕄) : Chan A B 4 = All A := by
  unfold Chan; congr 1; funext q; exact if_pos q.isLt

theorem chan_step (A B : Fin 4 → sProp 𝕄) (q : Fin 4) : Chan A B q.val ⊢ iprop(B q ∗ (A q -∗ Chan A B (q.val + 1))) := by
  have h : ∀ k, Chan A B k = iprop((if 0 < k then A 0 else B 0) ∗ (if 1 < k then A 1 else B 1) ∗ (if 2 < k then A 2 else B 2) ∗ (if 3 < k then A 3 else B 3)) := fun k => rfl
  rw [h, h]
  fin_cases q
  · show iprop(B 0 ∗ B 1 ∗ B 2 ∗ B 3) ⊢ iprop(B 0 ∗ (A 0 -∗ (A 0 ∗ B 1 ∗ B 2 ∗ B 3)))
    iintro ⟨H0, H1, H2, H3⟩
    isplitl [H0]; · iexact H0
    iintro H0
    isplitl [H0]; · iexact H0
    isplitl [H1]; · iexact H1
    isplitl [H2] <;> iassumption
  · show iprop(A 0 ∗ B 1 ∗ B 2 ∗ B 3) ⊢ iprop(B 1 ∗ (A 1 -∗ (A 0 ∗ A 1 ∗ B 2 ∗ B 3)))
    iintro ⟨H0, H1, H2, H3⟩
    isplitl [H1]; · iexact H1
    iintro H1
    isplitl [H0]; · iexact H0
    isplitl [H1]; · iexact H1
    isplitl [H2] <;> iassumption
  · show iprop(A 0 ∗ A 1 ∗ B 2 ∗ B 3) ⊢ iprop(B 2 ∗ (A 2 -∗ (A 0 ∗ A 1 ∗ A 2 ∗ B 3)))
    iintro ⟨H0, H1, H2, H3⟩
    isplitl [H2]; · iexact H2
    iintro H2
    isplitl [H0]; · iexact H0
    isplitl [H1]; · iexact H1
    isplitl [H2] <;> iassumption
  · show iprop(A 0 ∗ A 1 ∗ A 2 ∗ B 3) ⊢ iprop(B 3 ∗ (A 3 -∗ (A 0 ∗ A 1 ∗ A 2 ∗ A 3)))
    iintro ⟨H0, H1, H2, H3⟩
    isplitl [H3]; · iexact H3
    iintro H3
    isplitl [H0]; · iexact H0
    isplitl [H1]; · iexact H1
    isplitl [H2] <;> iassumption

theorem chan_trip (A B : Fin 4 → sProp 𝕄) {n : ℕ} (h : n = 4) (t : Fin n) :
    Chan A B t.val ⊢ iprop(B (chan h t) ∗ (A (chan h t) -∗ Chan A B (t.val + 1))) := chan_step A B (chan h t)

theorem all_sep (A B : Fin 4 → sProp 𝕄) : All (fun q => iprop(A q ∗ B q)) ⊢ iprop(All A ∗ All B) := by
  unfold All
  iintro ⟨⟨A0, B0⟩, ⟨A1, B1⟩, ⟨A2, B2⟩, ⟨A3, B3⟩⟩
  isplitl [A0 A1 A2 A3]
  · isplitl [A0]; · iexact A0
    isplitl [A1]; · iexact A1
    isplitl [A2] <;> iassumption
  isplitl [B0]; · iexact B0
  isplitl [B1]; · iexact B1
  isplitl [B2] <;> iassumption
theorem all_sep' (A B : Fin 4 → sProp 𝕄) : iprop(All A ∗ All B) ⊢ All (fun q => iprop(A q ∗ B q)) := by
  unfold All
  iintro ⟨⟨A0, A1, A2, A3⟩, ⟨B0, B1, B2, B3⟩⟩
  isplitl [A0 B0]; · isplitl [A0] <;> iassumption
  isplitl [A1 B1]; · isplitl [A1] <;> iassumption
  isplitl [A2 B2]; · isplitl [A2] <;> iassumption
  isplitl [A3] <;> iassumption

/-! ## What the accumulator holds -/

/-- The accumulator at some contents of which `P` holds. -/
def Gs (c : Dev nD) (P : (Fin 4 → Vec F S1x1024x2048 .f32) → Prop) : sProp 𝕄 := iprop(∃ V, ⌜P V⌝ ∗ gPts c V)

/-- The products of hop `s` in place for the first `E` channels of direction 0 and the first `T` of direction 1. -/
def PG (c : Dev nD) (s E T : ℕ) (V : Fin 4 → Vec F S1x1024x2048 .f32) : Prop :=
  ∀ q : Fin 4, (q.val % 2 = 0 ∧ q.val / 2 < E) ∨ (q.val % 2 = 1 ∧ q.val / 2 < T) → V q = dt m c (rc c q s) q
/-- The finished sums in place for the first `k` channels, the last products for the others. -/
def P8 (c : Dev nD) (k : ℕ) (V : Fin 4 → Vec F S1x1024x2048 .f32) : Prop :=
  ∀ q : Fin 4, V q = if q.val < k then res m c q else dt m c (rc c q 2) q
/-- The result in place for the first `k` channels, the finished sums for the others. -/
def P10 (c : Dev nD) (k : ℕ) (V : Fin 4 → Vec F S1x1024x2048 .f32) : Prop :=
  ∀ q : Fin 4, V q = if q.val < k then fin m c q else res m c q

theorem rc_even (c : Dev nD) (q : Fin 4) (s : ℕ) (h : q.val % 2 = 0) : rc c q s = rc c 0 s := by
  unfold rc; rw [if_pos h]; rfl
theorem rc_odd (c : Dev nD) (q : Fin 4) (s : ℕ) (h : q.val % 2 = 1) : rc c q s = rc c 1 s := by
  unfold rc; rw [if_neg (by omega)]; rfl
theorem chan0_val {n : ℕ} (h : n = 2) (t : Fin n) : (chan0 h t).val = 2 * t.val := by
  unfold chan0; split <;> rename_i h'
  · rw [h']; rfl
  · have := t.isLt; show 2 = 2 * t.val; omega
theorem chan1_val {n : ℕ} (h : n = 2) (t : Fin n) : (chan1 h t).val = 2 * t.val + 1 := by
  unfold chan1; split <;> rename_i h'
  · rw [h']; rfl
  · have := t.isLt; show 3 = 2 * t.val + 1; omega

theorem PG_even (c : Dev nD) (s k T : ℕ) (V : Fin 4 → Vec F S1x1024x2048 .f32) (q : Fin 4) (hq : q.val = 2 * k) (h : PG m c s k T V) :
    PG m c s (k + 1) T (Function.update V q (dt m c (rc c 0 s) q)) := by
  intro q' h'
  by_cases he : q' = q
  · subst he; rw [Function.update_self, rc_even c q' s (by omega)]
  · rw [Function.update_of_ne he]
    exact h q' (by have := fun hv => he (Fin.ext hv); omega)
theorem PG_odd (c : Dev nD) (s E k : ℕ) (V : Fin 4 → Vec F S1x1024x2048 .f32) (q : Fin 4) (hq : q.val = 2 * k + 1) (h : PG m c s E k V) :
    PG m c s E (k + 1) (Function.update V q (dt m c (rc c 1 s) q)) := by
  intro q' h'
  by_cases he : q' = q
  · subst he; rw [Function.update_self, rc_odd c q' s (by omega)]
  · rw [Function.update_of_ne he]
    exact h q' (by have := fun hv => he (Fin.ext hv); omega)
theorem PG_all (c : Dev nD) (s : ℕ) (V : Fin 4 → Vec F S1x1024x2048 .f32) (h : PG m c s 2 2 V) (q : Fin 4) : V q = dt m c (rc c q s) q :=
  h q (by have := q.isLt; omega)
theorem PG_none (c : Dev nD) (s : ℕ) (V : Fin 4 → Vec F S1x1024x2048 .f32) : PG m c s 0 0 V := fun q h => by omega

section Loops
variable (c : Dev nD)

/-! ## The loops -/

theorem loop1 (v2 v4 v6 : BitVec 32) {α : Type} {Q : α → sProp 𝕄} {kk : Unit → Prog (TpuEff nD τ sig (Elt F) Λ₀ .tc) α} :
    iprop(LC m K c 0 ∗ (Any c xvM ∗ Any c wvM ∗ Any c wbM) ∗ All fun q => iprop(Any c (sS q) ∗ rider (dst c q) 0 q ∗ Rdy c 0 q))
      ⊢ iprop(((LC m K c 4 ∗ (Any c xvM ∗ Any c wvM ∗ Any c wbM) ∗ All (Fly c 0)) -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t1_loop k0_t1_ok ⟨⟩ (tb1 (F := F) c v2 v4 v6) >>= kk) Q) := by
  rw [← chan_zero (Fly c 0)]
  have hb : ∀ (t : Fin k0_t1_loop.trips) (_ : Unit),
      iprop(LC m K c t.val ∗ (Any c xvM ∗ Any c wvM ∗ Any c wbM) ∗ Chan (Fly c 0) (fun q => iprop(Any c (sS q) ∗ rider (dst c q) 0 q ∗ Rdy c 0 q)) t.val)
        ⊢ wp frame (wpE (defs₀ (F := F)) 𝒱₀ (c : Thread nD τ) none) Set.univ (tb1 (F := F) c v2 v4 v6 t ⟨⟩)
            (fun _ => iprop(LC m K c (t.val + 1) ∗ (Any c xvM ∗ Any c wvM ∗ Any c wbM) ∗ Chan (Fly c 0) (fun q => iprop(Any c (sS q) ∗ rider (dst c q) 0 q ∗ Rdy c 0 q)) (t.val + 1))) := by
    intro t _
    iintro ⟨HL, Hf, Hc⟩
    ihave Hc := (chan_trip (Fly c 0) (fun q => iprop(Any c (sS q) ∗ rider (dst c q) 0 q ∗ Rdy c 0 q)) trips1 t) $$ Hc
    icases Hc with ⟨Hq, Hc⟩
    iapply (trip1 m K c v2 v4 v6 t)
    isplitr [Hc]
    · isplitl [HL]; · iexact HL
      isplitl [Hf]; · iexact Hf
      iexact Hq
    iintro ⟨HL, Hf, Hq⟩
    isplitl [HL]; · iexact HL
    isplitl [Hf]; · iexact Hf
    iapply Hc; iexact Hq
  iintro H Hk
  iapply (Scf.wp_for_bind _ _ _ _ _ _ k0_t1_ok _ _ (fun t _ => iprop(LC m K c t ∗ (Any c xvM ∗ Any c wvM ∗ Any c wbM) ∗ Chan (Fly c 0) (fun q => iprop(Any c (sS q) ∗ rider (dst c q) 0 q ∗ Rdy c 0 q)) t)) hb) $$ H
  iintro %_ H
  rw [show Scf.trips k0_t1_loop.lb k0_t1_loop.ub k0_t1_loop.st = 4 from trips1, chan_four]
  iapply Hk; iexact H

theorem loop2 (n s : ℕ) (v2 v4 v6 : BitVec 32) {α : Type} {Q : α → sProp 𝕄} {kk : Unit → Prog (TpuEff nD τ sig (Elt F) Λ₀ .tc) α} :
    iprop(LC m K c n ∗ owns (c : Thread nD τ) xvM fullShare (X m c (rc c 0 s)) ∗ Any c wvM ∗ Gs c (PG m c s 0 0))
      ⊢ iprop((iprop(LC m K c n ∗ owns (c : Thread nD τ) xvM fullShare (X m c (rc c 0 s)) ∗ Any c wvM ∗ Gs c (PG m c s 2 0)) -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t2_loop k0_t2_ok ⟨⟩ (tb2 (F := F) c v2 v4 v6) >>= kk) Q) := by
  have hb : ∀ (t : Fin k0_t2_loop.trips) (_ : Unit),
      iprop(LC m K c n ∗ owns (c : Thread nD τ) xvM fullShare (X m c (rc c 0 s)) ∗ Any c wvM ∗ Gs c (PG m c s t.val 0)) ⊢ wp frame (wpE (defs₀ (F := F)) 𝒱₀ (c : Thread nD τ) none) Set.univ (tb2 (F := F) c v2 v4 v6 t ⟨⟩)
        (fun _ => iprop(LC m K c n ∗ owns (c : Thread nD τ) xvM fullShare (X m c (rc c 0 s)) ∗ Any c wvM ∗ Gs c (PG m c s (t.val + 1) 0))) := by
    intro t _
    unfold Gs
    iintro ⟨HL, Hx, Hw, ⟨%V, %hV, Hg⟩⟩
    iapply (trip2 m K c n (rc c 0 s) V v2 v4 v6 t)
    isplitr []
    · isplitl [HL]; · iexact HL
      isplitl [Hx]; · iexact Hx
      isplitl [Hw] <;> iassumption
    iintro ⟨HL, Hx, Hw, Hg⟩
    isplitl [HL]; · iexact HL
    isplitl [Hx]; · iexact Hx
    isplitl [Hw]; · iexact Hw
    iexists _
    isplitr; · ipureintro; exact PG_even m c s t.val 0 V _ (chan0_val trips2 t) hV
    iexact Hg
  iintro H Hk
  iapply (Scf.wp_for_bind _ _ _ _ _ _ k0_t2_ok _ _ (fun t _ => iprop(LC m K c n ∗ owns (c : Thread nD τ) xvM fullShare (X m c (rc c 0 s)) ∗ Any c wvM ∗ Gs c (PG m c s t 0))) hb) $$ H
  iintro %_ H
  rw [show Scf.trips k0_t2_loop.lb k0_t2_loop.ub k0_t2_loop.st = 2 from trips2]
  iapply Hk; iexact H

theorem loop3 (n s : ℕ) (v2 v4 v6 : BitVec 32) {α : Type} {Q : α → sProp 𝕄} {kk : Unit → Prog (TpuEff nD τ sig (Elt F) Λ₀ .tc) α} :
    iprop(LC m K c n ∗ owns (c : Thread nD τ) xvM fullShare (X m c (rc c 1 s)) ∗ Any c wvM ∗ Gs c (PG m c s 2 0))
      ⊢ iprop((iprop(LC m K c n ∗ owns (c : Thread nD τ) xvM fullShare (X m c (rc c 1 s)) ∗ Any c wvM ∗ Gs c (PG m c s 2 2)) -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t3_loop k0_t3_ok ⟨⟩ (tb3 (F := F) c v2 v4 v6) >>= kk) Q) := by
  have hb : ∀ (t : Fin k0_t3_loop.trips) (_ : Unit),
      iprop(LC m K c n ∗ owns (c : Thread nD τ) xvM fullShare (X m c (rc c 1 s)) ∗ Any c wvM ∗ Gs c (PG m c s 2 t.val)) ⊢ wp frame (wpE (defs₀ (F := F)) 𝒱₀ (c : Thread nD τ) none) Set.univ (tb3 (F := F) c v2 v4 v6 t ⟨⟩)
        (fun _ => iprop(LC m K c n ∗ owns (c : Thread nD τ) xvM fullShare (X m c (rc c 1 s)) ∗ Any c wvM ∗ Gs c (PG m c s 2 (t.val + 1)))) := by
    intro t _
    unfold Gs
    iintro ⟨HL, Hx, Hw, ⟨%V, %hV, Hg⟩⟩
    iapply (trip3 m K c n (rc c 1 s) V v2 v4 v6 t)
    isplitr []
    · isplitl [HL]; · iexact HL
      isplitl [Hx]; · iexact Hx
      isplitl [Hw] <;> iassumption
    iintro ⟨HL, Hx, Hw, Hg⟩
    isplitl [HL]; · iexact HL
    isplitl [Hx]; · iexact Hx
    isplitl [Hw]; · iexact Hw
    iexists _
    isplitr; · ipureintro; exact PG_odd m c s 2 t.val V _ (chan1_val trips3 t) hV
    iexact Hg
  iintro H Hk
  iapply (Scf.wp_for_bind _ _ _ _ _ _ k0_t3_ok _ _ (fun t _ => iprop(LC m K c n ∗ owns (c : Thread nD τ) xvM fullShare (X m c (rc c 1 s)) ∗ Any c wvM ∗ Gs c (PG m c s 2 t))) hb) $$ H
  iintro %_ H
  rw [show Scf.trips k0_t3_loop.lb k0_t3_loop.ub k0_t3_loop.st = 2 from trips3]
  iapply Hk; iexact H

theorem loop6 (n s : ℕ) (v2 v4 v6 w0 w1 : BitVec 32) (k : Fin k0_t4_loop.trips) {α : Type} {Q : α → sProp 𝕄} {kk : Unit → Prog (TpuEff nD τ sig (Elt F) Λ₀ .tc) α} :
    iprop(LC m K c n ∗ owns (c : Thread nD τ) xvM fullShare (X m c (rc c 0 s)) ∗ Any c wvM ∗ Gs c (PG m c s 0 0))
      ⊢ iprop((iprop(LC m K c n ∗ owns (c : Thread nD τ) xvM fullShare (X m c (rc c 0 s)) ∗ Any c wvM ∗ Gs c (PG m c s 2 0)) -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t6_loop k0_t6_ok ⟨⟩ (tb6 (F := F) c v2 v4 v6 w0 w1 k) >>= kk) Q) := by
  have hb : ∀ (t : Fin k0_t6_loop.trips) (_ : Unit),
      iprop(LC m K c n ∗ owns (c : Thread nD τ) xvM fullShare (X m c (rc c 0 s)) ∗ Any c wvM ∗ Gs c (PG m c s t.val 0)) ⊢ wp frame (wpE (defs₀ (F := F)) 𝒱₀ (c : Thread nD τ) none) Set.univ (tb6 (F := F) c v2 v4 v6 w0 w1 k t ⟨⟩)
        (fun _ => iprop(LC m K c n ∗ owns (c : Thread nD τ) xvM fullShare (X m c (rc c 0 s)) ∗ Any c wvM ∗ Gs c (PG m c s (t.val + 1) 0))) := by
    intro t _
    unfold Gs
    iintro ⟨HL, Hx, Hw, ⟨%V, %hV, Hg⟩⟩
    iapply (trip6 m K c n (rc c 0 s) V v2 v4 v6 w0 w1 k t)
    isplitr []
    · isplitl [HL]; · iexact HL
      isplitl [Hx]; · iexact Hx
      isplitl [Hw] <;> iassumption
    iintro ⟨HL, Hx, Hw, Hg⟩
    isplitl [HL]; · iexact HL
    isplitl [Hx]; · iexact Hx
    isplitl [Hw]; · iexact Hw
    iexists _
    isplitr; · ipureintro; exact PG_even m c s t.val 0 V _ (chan0_val trips6 t) hV
    iexact Hg
  iintro H Hk
  iapply (Scf.wp_for_bind _ _ _ _ _ _ k0_t6_ok _ _ (fun t _ => iprop(LC m K c n ∗ owns (c : Thread nD τ) xvM fullShare (X m c (rc c 0 s)) ∗ Any c wvM ∗ Gs c (PG m c s t 0))) hb) $$ H
  iintro %_ H
  rw [show Scf.trips k0_t6_loop.lb k0_t6_loop.ub k0_t6_loop.st = 2 from trips6]
  iapply Hk; iexact H

theorem loop7 (n s : ℕ) (v2 v4 v6 : BitVec 32) {α : Type} {Q : α → sProp 𝕄} {kk : Unit → Prog (TpuEff nD τ sig (Elt F) Λ₀ .tc) α} :
    iprop(LC m K c n ∗ owns (c : Thread nD τ) xvM fullShare (X m c (rc c 1 s)) ∗ Any c wvM ∗ Gs c (PG m c s 2 0))
      ⊢ iprop((iprop(LC m K c n ∗ owns (c : Thread nD τ) xvM fullShare (X m c (rc c 1 s)) ∗ Any c wvM ∗ Gs c (PG m c s 2 2)) -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t7_loop k0_t7_ok ⟨⟩ (tb7 (F := F) c v2 v4 v6) >>= kk) Q) := by
  have hb : ∀ (t : Fin k0_t7_loop.trips) (_ : Unit),
      iprop(LC m K c n ∗ owns (c : Thread nD τ) xvM fullShare (X m c (rc c 1 s)) ∗ Any c wvM ∗ Gs c (PG m c s 2 t.val)) ⊢ wp frame (wpE (defs₀ (F := F)) 𝒱₀ (c : Thread nD τ) none) Set.univ (tb7 (F := F) c v2 v4 v6 t ⟨⟩)
        (fun _ => iprop(LC m K c n ∗ owns (c : Thread nD τ) xvM fullShare (X m c (rc c 1 s)) ∗ Any c wvM ∗ Gs c (PG m c s 2 (t.val + 1)))) := by
    intro t _
    unfold Gs
    iintro ⟨HL, Hx, Hw, ⟨%V, %hV, Hg⟩⟩
    iapply (trip7 m K c n (rc c 1 s) V v2 v4 v6 t)
    isplitr []
    · isplitl [HL]; · iexact HL
      isplitl [Hx]; · iexact Hx
      isplitl [Hw] <;> iassumption
    iintro ⟨HL, Hx, Hw, Hg⟩
    isplitl [HL]; · iexact HL
    isplitl [Hx]; · iexact Hx
    isplitl [Hw]; · iexact Hw
    iexists _
    isplitr; · ipureintro; exact PG_odd m c s 2 t.val V _ (chan1_val trips7 t) hV
    iexact Hg
  iintro H Hk
  iapply (Scf.wp_for_bind _ _ _ _ _ _ k0_t7_ok _ _ (fun t _ => iprop(LC m K c n ∗ owns (c : Thread nD τ) xvM fullShare (X m c (rc c 1 s)) ∗ Any c wvM ∗ Gs c (PG m c s 2 t))) hb) $$ H
  iintro %_ H
  rw [show Scf.trips k0_t7_loop.lb k0_t7_loop.ub k0_t7_loop.st = 2 from trips7]
  iapply Hk; iexact H

/-- Every channel of one hop received and sent on. -/
theorem loop5 (v2 v4 v6 w0 w1 : BitVec 32) (k : Fin k0_t4_loop.trips) (a : BitVec 32) {α : Type} {Q : α → sProp 𝕄} {kk : Unit → Prog (TpuEff nD τ sig (Elt F) Λ₀ .tc) α} :
    iprop(LC m K c (4 * (k.val + 1) + 0) ∗ Any c wbM ∗ Gs c (PG m c k.val 2 2) ∗ All (fun q => iprop(Fly c (hopIn trips4 k) q ∗ Rdy c (hopOut trips4 k) q)))
      ⊢ iprop((iprop(LC m K c (4 * (k.val + 1) + 4) ∗ Any c wbM ∗ Gs c (PG m c k.val 2 2) ∗ All (fun q => iprop(Done c (hopIn trips4 k) q ∗ Fly c (hopOut trips4 k) q))) -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t5_loop k0_t5_ok ⟨⟩ (tb5 (F := F) c v2 v4 v6 w0 w1 k a) >>= kk) Q) := by
  rw [← chan_zero (fun q => iprop(Done c (hopIn trips4 k) q ∗ Fly c (hopOut trips4 k) q)) (fun q => iprop(Fly c (hopIn trips4 k) q ∗ Rdy c (hopOut trips4 k) q))]
  have hb : ∀ (t : Fin k0_t5_loop.trips) (_ : Unit),
      iprop(LC m K c (4 * (k.val + 1) + t.val) ∗ Any c wbM ∗ Gs c (PG m c k.val 2 2) ∗ Chan (fun q => iprop(Done c (hopIn trips4 k) q ∗ Fly c (hopOut trips4 k) q)) (fun q => iprop(Fly c (hopIn trips4 k) q ∗ Rdy c (hopOut trips4 k) q)) t.val) ⊢ wp frame (wpE (defs₀ (F := F)) 𝒱₀ (c : Thread nD τ) none) Set.univ (tb5 (F := F) c v2 v4 v6 w0 w1 k a t ⟨⟩)
        (fun _ => iprop(LC m K c (4 * (k.val + 1) + (t.val + 1)) ∗ Any c wbM ∗ Gs c (PG m c k.val 2 2) ∗ Chan (fun q => iprop(Done c (hopIn trips4 k) q ∗ Fly c (hopOut trips4 k) q)) (fun q => iprop(Fly c (hopIn trips4 k) q ∗ Rdy c (hopOut trips4 k) q)) (t.val + 1))) := by
    intro t _
    unfold Gs
    iintro ⟨HL, Hb, ⟨%V, %hV, Hg⟩, Hc⟩
    ihave Hc := (chan_trip (fun q => iprop(Done c (hopIn trips4 k) q ∗ Fly c (hopOut trips4 k) q)) (fun q => iprop(Fly c (hopIn trips4 k) q ∗ Rdy c (hopOut trips4 k) q)) trips5 t) $$ Hc
    icases Hc with ⟨Hq, Hc⟩
    iapply (trip5 m K c V v2 v4 v6 w0 w1 k a t (PG_all m c k.val V hV _))
    isplitr [Hc]
    · isplitl [HL]; · iexact HL
      isplitl [Hb]; · iexact Hb
      isplitl [Hg]; · iexact Hg
      iexact Hq
    iintro ⟨HL, Hb, Hg, Hq⟩
    isplitl [HL]; · iexact HL
    isplitl [Hb]; · iexact Hb
    isplitl [Hg]
    · iexists V
      isplitr; · ipureintro; exact hV
      iexact Hg
    iapply Hc; iexact Hq
  iintro H Hk
  iapply (Scf.wp_for_bind _ _ _ _ _ _ k0_t5_ok _ _ (fun t _ => iprop(LC m K c (4 * (k.val + 1) + t) ∗ Any c wbM ∗ Gs c (PG m c k.val 2 2) ∗ Chan (fun q => iprop(Done c (hopIn trips4 k) q ∗ Fly c (hopOut trips4 k) q)) (fun q => iprop(Fly c (hopIn trips4 k) q ∗ Rdy c (hopOut trips4 k) q)) t)) hb) $$ H
  iintro %_ H
  rw [show Scf.trips k0_t5_loop.lb k0_t5_loop.ub k0_t5_loop.st = 4 from trips5, chan_four]
  iapply Hk; iexact H

/-- The ring's copies before hop `k` is received. -/
def HS : ℕ → sProp 𝕄
  | 0 => iprop(All (Fly c 0) ∗ All (Rdy c 1) ∗ All (Rdy c 2))
  | 1 => iprop(All (Done c 0) ∗ All (Fly c 1) ∗ All (Rdy c 2))
  | _ => iprop(All (Done c 0) ∗ All (Done c 1) ∗ All (Fly c 2))
theorem HS_step {n : ℕ} (h : n = 2) (k : Fin n) :
    HS (F := F) c k.val ⊢ iprop(All (fun q => iprop(Fly c (hopIn h k) q ∗ Rdy c (hopOut h k) q))
      ∗ (All (fun q => iprop(Done c (hopIn h k) q ∗ Fly c (hopOut h k) q)) -∗ HS c (k.val + 1))) := by
  subst h
  fin_cases k
  · show iprop(All (Fly c 0) ∗ All (Rdy c 1) ∗ All (Rdy c 2)) ⊢ iprop(All (fun q => iprop(Fly c 0 q ∗ Rdy c 1 q))
      ∗ (All (fun q => iprop(Done c 0 q ∗ Fly c 1 q)) -∗ (All (Done c 0) ∗ All (Fly c 1) ∗ All (Rdy c 2))))
    iintro ⟨H0, H1, H2⟩
    isplitl [H0 H1]
    · iapply (all_sep' (Fly c 0) (Rdy c 1)); isplitl [H0] <;> iassumption
    iintro H
    ihave H := (all_sep (Done c 0) (Fly c 1)) $$ H
    icases H with ⟨H0, H1⟩
    isplitl [H0]; · iexact H0
    isplitl [H1] <;> iassumption
  · show iprop(All (Done c 0) ∗ All (Fly c 1) ∗ All (Rdy c 2)) ⊢ iprop(All (fun q => iprop(Fly c 1 q ∗ Rdy c 2 q))
      ∗ (All (fun q => iprop(Done c 1 q ∗ Fly c 2 q)) -∗ (All (Done c 0) ∗ All (Done c 1) ∗ All (Fly c 2))))
    iintro ⟨H0, H1, H2⟩
    isplitl [H1 H2]
    · iapply (all_sep' (Fly c 1) (Rdy c 2)); isplitl [H1] <;> iassumption
    iintro H
    ihave H := (all_sep (Done c 1) (Fly c 2)) $$ H
    icases H with ⟨H1, H2⟩
    isplitl [H0]; · iexact H0
    isplitl [H1] <;> iassumption

/-- The buffers of the hop loop, the products of hop `k` in the accumulator. -/
def HB (k : ℕ) : sProp 𝕄 :=
  iprop(LC m K c (4 * (k + 1)) ∗ (Any c xvM ∗ Any c wvM ∗ Any c wbM) ∗ Gs c (PG m c k 2 2) ∗ HS c k)

theorem gs_next (k : ℕ) : Gs c (PG m c k 2 2) ⊢ Gs (F := F) c (PG m c (k + 1) 0 0) := by
  unfold Gs
  iintro ⟨%V, -, Hg⟩
  iexists V
  isplitr; · ipureintro; exact PG_none m c _ V
  iexact Hg

theorem trip4 (v2 v4 v6 : BitVec 32) (k : Fin k0_t4_loop.trips) :
    HB m K c k.val ⊢ wp frame (wpE (defs₀ (F := F)) 𝒱₀ (c : Thread nD τ) none) Set.univ (tb4 (F := F) c v2 v4 v6 k ⟨⟩) (fun _ => HB m K c (k.val + 1)) := by
  unfold HB tb4 k0_t4_body
  simp only [k0_part5_eq_skeleton]
  unfold k0_part5_skel
  simp only [Prog.lift, Prog.bind_op, Prog.bind_ret, Prog.pure_eq_ret, Prog.bind_assoc]
  iintro ⟨HL, ⟨Hx, Hw, Hb⟩, Hg, Hh⟩
  ihave Hh := (HS_step c trips4 k) $$ Hh
  icases Hh with ⟨Hq, Hh⟩
  iapply (loop5 m K c v2 v4 v6 0#32 1#32 k _) $$ [HL Hb Hg Hq]
  · isplitl [HL]; · iexact HL
    isplitl [Hb]; · iexact Hb
    isplitl [Hg] <;> iassumption
  iintro ⟨HL, Hb, Hg, Hq⟩
  rw [show 4 * (k.val + 1) + 4 = 4 * (k.val + 1 + 1) from rfl]
  ihave Hh := Hh $$ Hq
  ihave Hg := (gs_next m c k.val) $$ Hg
  iapply (cpx m K c (4 * (k.val + 1 + 1)) (rc c 0 (k.val + 1)) (xS_of (off17a_eq c k) (k0_off17_inb c k 1)) rfl lsem0 lsem0) $$ [HL Hx]
  · isplitl [HL] <;> iassumption
  iintro ⟨HL, Hx⟩
  iapply (loop6 m K c (4 * (k.val + 1 + 1)) (k.val + 1) v2 v4 v6 0#32 1#32 k) $$ [HL Hx Hw Hg]
  · isplitl [HL]; · iexact HL
    isplitl [Hx]; · iexact Hx
    isplitl [Hw] <;> iassumption
  iintro ⟨HL, Hx, Hw, Hg⟩
  ihave Hx := (any_of_owns c) $$ Hx
  iapply (cpx m K c (4 * (k.val + 1 + 1)) (rc c 1 (k.val + 1)) (xS_of (off17b_eq c k) (k0_off17_inb c k 0)) rfl lsem0 lsem0) $$ [HL Hx]
  · isplitl [HL] <;> iassumption
  iintro ⟨HL, Hx⟩
  iapply (loop7 m K c (4 * (k.val + 1 + 1)) (k.val + 1) v2 v4 v6) $$ [HL Hx Hw Hg]
  · isplitl [HL]; · iexact HL
    isplitl [Hx]; · iexact Hx
    isplitl [Hw] <;> iassumption
  iintro ⟨HL, Hx, Hw, Hg⟩
  rw [wp_ret]; imodintro
  isplitl [HL]; · iexact HL
  isplitl [Hx Hw Hb]
  · isplitl [Hx]; · iapply (any_of_owns c) $$ Hx
    isplitl [Hw] <;> iassumption
  isplitl [Hg] <;> iassumption

theorem loop4 (v2 v4 v6 : BitVec 32) {α : Type} {Q : α → sProp 𝕄} {kk : Unit → Prog (TpuEff nD τ sig (Elt F) Λ₀ .tc) α} :
    HB m K c 0 ⊢ iprop((HB m K c 2 -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t4_loop k0_t4_ok ⟨⟩ (tb4 (F := F) c v2 v4 v6) >>= kk) Q) := by
  iintro H Hk
  iapply (Scf.wp_for_bind _ _ _ _ _ _ k0_t4_ok _ _ (fun t _ => HB m K c t) (fun k _ => trip4 m K c v2 v4 v6 k)) $$ H
  iintro %_ H
  rw [show Scf.trips k0_t4_loop.lb k0_t4_loop.ub k0_t4_loop.st = 2 from trips4]
  iapply Hk; iexact H

theorem P8_step (k : Fin 4) (V : Fin 4 → Vec F S1x1024x2048 .f32) (h : P8 m c k.val V) : P8 m c (k.val + 1) (Function.update V k (res m c k)) := by
  intro q
  by_cases he : q = k
  · subst he; rw [Function.update_self, if_pos (Nat.lt_succ_self _)]
  · rw [Function.update_of_ne he, h q]
    have : q.val ≠ k.val := fun hv => he (Fin.ext hv)
    exact if_congr (by omega) rfl rfl
theorem P10_step (k : Fin 4) (V : Fin 4 → Vec F S1x1024x2048 .f32) (h : P10 m c k.val V) :
    P10 m c (k.val + 1) (Function.update V k (k0_pay11 (mfold m c 4) (am3 m c) (V k))) := by
  intro q
  by_cases he : q = k
  · subst he; rw [Function.update_self, if_pos (Nat.lt_succ_self _), h q, if_neg (lt_irrefl _)]; rfl
  · rw [Function.update_of_ne he, h q]
    have : q.val ≠ k.val := fun hv => he (Fin.ext hv)
    exact if_congr (by omega) rfl rfl
theorem mfold_step (t : Fin 4) : k0_pay9 (mfold m c t.val) (snd m 2 (src c t) t) (dt m c (rc c t 2) t) = mfold m c (t.val + 1) := by
  have : ch t.val = t := Fin.ext (Nat.mod_eq_of_lt t.isLt)
  show _ = k0_pay9 (mfold m c t.val) (snd m 2 (src c (ch t.val)) (ch t.val)) (dt m c (rc c (ch t.val) 2) (ch t.val))
  rw [this]

/-- Every channel's last copy received, the sums finished, their maximum taken. -/
theorem loop8 (v2 v4 v6 : BitVec 32) {α : Type} {Q : α → sProp 𝕄} {kk : F .f32 → Prog (TpuEff nD τ sig (Elt F) Λ₀ .tc) α} :
    iprop(LC m K c 12 ∗ Any c wbM ∗ Gs c (P8 m c 0) ∗ All (fun q => Pend c (true, .inl (2, q))))
      ⊢ iprop((iprop(LC m K c 12 ∗ Any c wbM ∗ Gs c (P8 m c 4) ∗ All (fun q => semVal (cell c (some (true, .inl (2, q)))) 0)) -∗ wp frame (wpE (defs₀ (F := F)) 𝒱₀ (c : Thread nD τ) none) Set.univ (kk (mfold m c 4)) Q)
          -∗ wp frame (wpE (defs₀ (F := F)) 𝒱₀ (c : Thread nD τ) none) Set.univ (Scf.Loop.for k0_t8_loop k0_t8_ok (FloatOps.ofBits .f32 0x00000000#32 : F .f32) (tb8 (F := F) c v2 v4 v6) >>= kk) Q) := by
  rw [← chan_zero (fun q => semVal (cell c (some (true, .inl (2, q)))) 0) (fun q => Pend c (true, .inl (2, q)))]
  have hb : ∀ (t : Fin k0_t8_loop.trips) (acc : F .f32),
      iprop(⌜acc = mfold m c t.val⌝ ∗ iprop(LC m K c 12 ∗ Any c wbM ∗ Gs c (P8 m c t.val) ∗ Chan (fun q => semVal (cell c (some (true, .inl (2, q)))) 0) (fun q => Pend c (true, .inl (2, q))) t.val)) ⊢ wp frame (wpE (defs₀ (F := F)) 𝒱₀ (c : Thread nD τ) none) Set.univ (tb8 (F := F) c v2 v4 v6 t acc)
        (fun acc => iprop(⌜acc = mfold m c (t.val + 1)⌝ ∗ iprop(LC m K c 12 ∗ Any c wbM ∗ Gs c (P8 m c (t.val + 1)) ∗ Chan (fun q => semVal (cell c (some (true, .inl (2, q)))) 0) (fun q => Pend c (true, .inl (2, q))) (t.val + 1)))) := by
    intro t acc
    unfold Gs
    iintro ⟨%ha, HL, Hb, ⟨%V, %hV, Hg⟩, Hc⟩
    subst ha
    ihave Hc := (chan_trip (fun q => semVal (cell c (some (true, .inl (2, q)))) 0) (fun q => Pend c (true, .inl (2, q))) trips8 t) $$ Hc
    icases Hc with ⟨Hq, Hc⟩
    iapply (trip8 m K c V v2 v4 v6 t (mfold m c t.val) ((hV (chan trips8 t)).trans (if_neg (lt_irrefl _))))
    isplitr [Hc]
    · isplitl [HL]; · iexact HL
      isplitl [Hb]; · iexact Hb
      isplitl [Hg]; · iexact Hg
      iexact Hq
    iintro ⟨HL, Hb, Hg, Hq⟩
    isplitr; · ipureintro; exact mfold_step m c (chan trips8 t)
    isplitl [HL]; · iexact HL
    isplitl [Hb]; · iexact Hb
    isplitl [Hg]
    · iexists _
      isplitr; · ipureintro; exact P8_step m c (chan trips8 t) V hV
      iexact Hg
    iapply Hc; iexact Hq
  iintro H Hk
  iapply (Scf.wp_for_bind _ _ _ _ _ _ k0_t8_ok _ _ (fun t acc => iprop(⌜acc = mfold m c t⌝ ∗ iprop(LC m K c 12 ∗ Any c wbM ∗ Gs c (P8 m c t) ∗ Chan (fun q => semVal (cell c (some (true, .inl (2, q)))) 0) (fun q => Pend c (true, .inl (2, q))) t))) hb) $$ [H]
  · isplitr; · ipureintro; rfl
    iexact H
  iintro %acc ⟨%ha, H⟩
  rw [show Scf.trips k0_t8_loop.lb k0_t8_loop.ub k0_t8_loop.st = 4 from trips8, chan_four]
  rw [show Scf.trips k0_t8_loop.lb k0_t8_loop.ub k0_t8_loop.st = 4 from trips8] at ha
  subst ha
  iapply Hk; iexact H

theorem loop9 (v2 v4 v6 : BitVec 32) (x : F .f32) {α : Type} {Q : α → sProp 𝕄} {kk : Unit → Prog (TpuEff nD τ sig (Elt F) Λ₀ .tc) α} :
    iprop(LC m K c 12 ∗ All (fun q => Pend c (false, .inl (2, q))))
      ⊢ iprop((iprop(LC m K c 12 ∗ All (fun q => semVal (cell c (some (false, .inl (2, q)))) 0)) -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t9_loop k0_t9_ok ⟨⟩ (tb9 (F := F) c v2 v4 v6 x) >>= kk) Q) := by
  rw [← chan_zero (fun q => semVal (cell c (some (false, .inl (2, q)))) 0) (fun q => Pend c (false, .inl (2, q)))]
  have hb : ∀ (t : Fin k0_t9_loop.trips) (_ : Unit),
      iprop(LC m K c 12 ∗ Chan (fun q => semVal (cell c (some (false, .inl (2, q)))) 0) (fun q => Pend c (false, .inl (2, q))) t.val) ⊢ wp frame (wpE (defs₀ (F := F)) 𝒱₀ (c : Thread nD τ) none) Set.univ (tb9 (F := F) c v2 v4 v6 x t ⟨⟩)
        (fun _ => iprop(LC m K c 12 ∗ Chan (fun q => semVal (cell c (some (false, .inl (2, q)))) 0) (fun q => Pend c (false, .inl (2, q))) (t.val + 1))) := by
    intro t _
    iintro ⟨HL, Hc⟩
    ihave Hc := (chan_trip (fun q => semVal (cell c (some (false, .inl (2, q)))) 0) (fun q => Pend c (false, .inl (2, q))) trips9 t) $$ Hc
    icases Hc with ⟨Hq, Hc⟩
    iapply (trip9 m K c v2 v4 v6 x t)
    isplitr [Hc]
    · isplitl [HL] <;> iassumption
    iintro ⟨HL, Hq⟩
    isplitl [HL]; · iexact HL
    iapply Hc; iexact Hq
  iintro H Hk
  iapply (Scf.wp_for_bind _ _ _ _ _ _ k0_t9_ok _ _ (fun t _ => iprop(LC m K c 12 ∗ Chan (fun q => semVal (cell c (some (false, .inl (2, q)))) 0) (fun q => Pend c (false, .inl (2, q))) t)) hb) $$ H
  iintro %_ H
  rw [show Scf.trips k0_t9_loop.lb k0_t9_loop.ub k0_t9_loop.st = 4 from trips9, chan_four]
  iapply Hk; iexact H

theorem loop10 (v74 : BitVec 32) {α : Type} {Q : α → sProp 𝕄} {kk : Unit → Prog (TpuEff nD τ sig (Elt F) Λ₀ .tc) α} :
    Gs c (P10 m c 0)
      ⊢ iprop((gPts c (fin m c) -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t10_loop k0_t10_ok ⟨⟩ (tb10 (F := F) (mfold m c 4) v74 (am3 m c)) >>= kk) Q) := by
  have hb : ∀ (t : Fin k0_t10_loop.trips) (_ : Unit),
      Gs c (P10 m c t.val) ⊢ wp frame (wpE (defs₀ (F := F)) 𝒱₀ (c : Thread nD τ) none) Set.univ (tb10 (F := F) (mfold m c 4) v74 (am3 m c) t ⟨⟩) (fun _ => Gs c (P10 m c (t.val + 1))) := by
    intro t _
    unfold Gs
    iintro ⟨%V, %hV, Hg⟩
    iapply (trip10 c V (mfold m c 4) v74 (am3 m c) t)
    isplitl [Hg]; · iexact Hg
    iintro Hg
    iexists _
    isplitr; · ipureintro; exact P10_step m c (chan trips10 t) V hV
    iexact Hg
  iintro H Hk
  iapply (Scf.wp_for_bind _ _ _ _ _ _ k0_t10_ok _ _ (fun t _ => Gs c (P10 m c t)) hb) $$ H
  iintro %_ H
  rw [show Scf.trips k0_t10_loop.lb k0_t10_loop.ub k0_t10_loop.st = 4 from trips10]
  unfold Gs
  icases H with ⟨%V, %hV, Hg⟩
  rw [show V = fin m c from funext fun q => (hV q).trans (if_pos q.isLt)]
  iapply Hk; iexact Hg

end Loops

end Cert.KernelIdeal.Run

end
-- ==== Proof.KernelIdeal.Slots.lean ====
/-
  The buffers cut into the slots the copies use, and put together again.
-/
module

public import proofs.«01_k».proof.Proof.KernelIdeal.Loops

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Gen
variable (c : Dev nD) {sp : Space} {s : Shape} {e : EltTy}

/-- A whole buffer holds each of a family of disjoint parts. -/
theorem any_split (M : Memref sig .tc sp s e) {T : Type} [Fintype T] [DecidableEq T] (A : T → Finset (Idx (M.view.loc (c : Thread nD τ))))
    (hd : ∀ t t', t ≠ t' → Disjoint (A t) (A t')) (f : Buf (Elt F) (M.view.loc (c : Thread nD τ))) :
    (M.view.loc (c : Thread nD τ) ↦{fullShare} f : sProp 𝕄)
      ⊢ bigSep Finset.univ fun t => iprop(∃ g : Buf (Elt F) (M.view.loc (c : Thread nD τ)), M.view.loc (c : Thread nD τ) ↦[A t]{fullShare} g) := by
  refine BIBase.Entails.trans (Q := iprop(bigSep Finset.univ fun t => iprop(M.view.loc (c : Thread nD τ) ↦[A t]{fullShare} f))) ?_
    (bigSep_mono fun t _ => show iprop(M.view.loc (c : Thread nD τ) ↦[A t]{fullShare} f)
      ⊢ iprop(∃ g : Buf (Elt F) (M.view.loc (c : Thread nD τ)), M.view.loc (c : Thread nD τ) ↦[A t]{fullShare} g) from by iintro H; iexists f; iexact H)
  rw [← pointsTo_biUnion Finset.univ A fun t _ t' _ => hd t t']
  iintro H
  ihave H := (pointsTo_split_subset (Finset.subset_univ (Finset.univ.biUnion A))).1 $$ H
  icases H with ⟨H, -⟩
  iexact H

/-- Two slices with no element in common. -/
theorem slice_disj (M : Memref sig .tc sp s e) (r r' : Rect s) (h : ∀ y y', r.emb y ≠ r'.emb y') :
    Disjoint (M.view.slice r).set (M.view.slice r').set := by
  rw [View.set_slice, View.set_slice, Finset.disjoint_map, Finset.disjoint_left]
  intro i hi hi'
  obtain ⟨y, rfl⟩ := r.exists_idx_of_mem hi
  obtain ⟨y', hy'⟩ := r'.exists_idx_of_mem hi'
  exact h y y' hy'.symm

/-- A memref owned through a squeeze of it. -/
theorem owns_sq (M : Memref sig .tc sp s e) {s' : Shape} (hq : s.Squeezes s') (q : PosShare TreeShare) (x : s.Idx → Elt F e) :
    owns (c : Thread nD τ) M q x ⊢ (owns (c : Thread nD τ) (M.squeeze s' hq) q (fun i => x (Shape.reshapeEquiv hq.numel_eq i)) : sProp 𝕄) := by
  unfold owns
  iintro ⟨%g, %hg, H⟩
  iexists g
  isplitr; · ipureintro; rw [← hg]; rfl
  rw [show (M.squeeze s' hq).view.set = M.view.set from View.set_reshape _ _]
  iexact H
theorem owns_unsq (M : Memref sig .tc sp s e) {s' : Shape} (hq : s.Squeezes s') (q : PosShare TreeShare) (x : s.Idx → Elt F e) :
    owns (c : Thread nD τ) (M.squeeze s' hq) q (fun i => x (Shape.reshapeEquiv hq.numel_eq i)) ⊢ (owns (c : Thread nD τ) M q x : sProp 𝕄) := by
  unfold owns
  rw [show (M.squeeze s' hq).view.set = M.view.set from View.set_reshape _ _]
  iintro ⟨%g, %hg, H⟩
  iexists g
  isplitr
  · ipureintro
    funext j
    have := congrFun hg ((Shape.reshapeEquiv hq.numel_eq).symm j)
    rw [Equiv.apply_symm_apply] at this
    rw [← this]
    show M.view.read (Elt F) g j = M.view.read (Elt F) g (Shape.reshapeEquiv hq.numel_eq ((Shape.reshapeEquiv hq.numel_eq).symm j))
    rw [Equiv.apply_symm_apply]
  iexact H

end Gen

/-! ## Parts of the receive buffer and of the landing buffer -/

theorem rR_disj {s s' : Fin 3} {q q' : Fin 4} {y y' : S1x1x1024x2048.Idx}
    (h : (Rect.unit (s := S2x3x1024x4096) (rOff s q) S1x1x1024x2048.size (rOff_inb s q)).emb y
      = (Rect.unit (s := S2x3x1024x4096) (rOff s' q') S1x1x1024x2048.size (rOff_inb s' q')).emb y') : s = s' ∧ q = q' := by
  have h0 : (y 0).val < 1 := (y 0).isLt
  have h1 : (y 1).val < 1 := (y 1).isLt
  have h3 : (y 3).val < 2048 := (y 3).isLt
  have h0' : (y' 0).val < 1 := (y' 0).isLt
  have h1' : (y' 1).val < 1 := (y' 1).isLt
  have h3' : (y' 3).val < 2048 := (y' 3).isLt
  have e0 : q.val % 2 + 1 * (y 0).val = q'.val % 2 + 1 * (y' 0).val := congrArg (fun i : S2x3x1024x4096.Idx => (i 0).val) h
  have e1 : s.val + 1 * (y 1).val = s'.val + 1 * (y' 1).val := congrArg (fun i : S2x3x1024x4096.Idx => (i 1).val) h
  have e3 : 2048 * (q.val / 2) + 1 * (y 3).val = 2048 * (q'.val / 2) + 1 * (y' 3).val := congrArg (fun i : S2x3x1024x4096.Idx => (i 3).val) h
  exact ⟨Fin.ext (by omega), Fin.ext (by omega)⟩

abbrev mR (j : Fin 3) : Rect S3x8x128 := Rect.unit (s := S3x8x128) (mOff j) S1x8x128.size (mOff_inb j)
theorem mR_0 (j : Fin 3) (y : S1x8x128.Idx) : (mR j).emb y 0 = j := by
  have h0 : (y 0).val < 1 := (y 0).isLt
  apply Fin.ext; show j.val + 1 * (y 0).val = j.val; omega
theorem mR_disj {j j' : Fin 3} {y y' : S1x8x128.Idx} (h : (mR j).emb y = (mR j').emb y') : j = j' := by
  rw [← mR_0 j y, ← mR_0 j' y', h]

section Split
variable (c : Dev nD)

theorem s_split (f : Buf (Elt F) ((sM : Memref sig .tc .hbm S2x1024x4096 .bf16).view.loc (c : Thread nD τ))) :
    ((sM : Memref sig .tc .hbm S2x1024x4096 .bf16).view.loc (c : Thread nD τ) ↦{fullShare} f : sProp 𝕄) ⊢ All fun q => Any c (sS q) :=
  (any_split c sM (fun q : Fin 4 => (sM.view.slice (gR q)).set) (fun q q' hq => slice_disj sM _ _ fun y y' h => hq (gR_disj h)) f).trans
    (Entails.of_eq (by
      rw [bigSep_univ_eq_bigSepL [0, 1, 2, 3] (by decide) (by decide), bigSepL_cons_cons, bigSepL_cons_cons, bigSepL_cons_cons, bigSepL_singleton]
      unfold All Any
      simp only [show ∀ q, (sS q).view.set = (sM.view.slice (gR q)).set from fun q => View.set_reshape _ _]
      rfl))

/-- All the receive slots a device lends. -/
theorem r_split (f : Buf (Elt F) ((rM : Memref sig .tc .hbm S2x3x1024x4096 .bf16).view.loc (c : Thread nD τ))) :
    ((rM : Memref sig .tc .hbm S2x3x1024x4096 .bf16).view.loc (c : Thread nD τ) ↦{fullShare} f : sProp 𝕄)
      ⊢ All fun q => bigSep Finset.univ fun s : Fin 3 => Any c (rS s q) :=
  (any_split c rM (fun qs : Fin 4 × Fin 3 => (rM.view.slice (Rect.unit (s := S2x3x1024x4096) (rOff qs.2 qs.1) S1x1x1024x2048.size (rOff_inb qs.2 qs.1))).set)
    (fun q q' hq => slice_disj rM _ _ fun y y' h => hq (Prod.ext (rR_disj h).2 (rR_disj h).1)) f).trans
    (Entails.of_eq (by
      rw [bigSep_univ_prod, bigSep_univ_eq_bigSepL [0, 1, 2, 3] (by decide) (by decide), bigSepL_cons_cons, bigSepL_cons_cons, bigSepL_cons_cons, bigSepL_singleton]
      unfold All Any
      simp only [show ∀ s q, (rS s q).view.set = (rM.view.slice (Rect.unit (s := S2x3x1024x4096) (rOff s q) S1x1x1024x2048.size (rOff_inb s q))).set from fun s q => View.set_reshape _ _]
      rfl))

theorem m_split (f : Buf (Elt F) ((arM : Memref sig .tc .vmem S3x8x128 .f32).view.loc (c : Thread nD τ))) :
    ((arM : Memref sig .tc .vmem S3x8x128 .f32).view.loc (c : Thread nD τ) ↦{fullShare} f : sProp 𝕄) ⊢ iprop(Any c (mS 0) ∗ Any c (mS 1) ∗ Any c (mS 2)) :=
  (any_split c arM (fun j : Fin 3 => (arM.view.slice (mR j)).set) (fun q q' hq => slice_disj arM _ _ fun y y' h => hq (mR_disj h)) f).trans
    (Entails.of_eq (by
      rw [bigSep_univ_eq_bigSepL [0, 1, 2] (by decide) (by decide), bigSepL_cons_cons, bigSepL_cons_cons, bigSepL_singleton]
      unfold Any
      simp only [show ∀ j, (mS j).view.set = (arM.view.slice (mR j)).set from fun j => View.set_reshape _ _]
      rfl))

theorem mR_cov : (Finset.univ : Finset (Fin 3)).biUnion (fun t => (mR t).set) = Finset.univ := by
  refine Finset.eq_univ_iff_forall.mpr fun i => Finset.mem_biUnion.mpr ⟨i 0, Finset.mem_univ _, ?_⟩
  rw [← Rect.map_emb_univ, Finset.mem_map]
  refine ⟨((fun a => match a with | 0 => ⟨0, Nat.one_pos⟩ | 1 => i 1 | 2 => i 2) : S1x8x128.Idx), Finset.mem_univ _, ?_⟩
  funext a
  match a with
  | 0 => apply Fin.ext; show (i 0).val + 1 * 0 = (i 0).val; omega
  | 1 => apply Fin.ext; show 0 + 1 * (i 1).val = (i 1).val; omega
  | 2 => apply Fin.ext; show 0 + 1 * (i 2).val = (i 2).val; omega

theorem rect_disj {s : Shape} {r r' : Rect s} (h : ∀ y y', r.emb y ≠ r'.emb y') : Disjoint r.set r'.set := by
  rw [Finset.disjoint_left]
  intro i hi hi'
  obtain ⟨y, rfl⟩ := r.exists_idx_of_mem hi
  obtain ⟨y', hy'⟩ := r'.exists_idx_of_mem hi'
  exact h y y' hy'.symm

/-- A maximum landed, as its slice of the landing buffer. -/
theorem m_piece (j : Fin 3) : owns (c : Thread nD τ) (mS j) fullShare (amx m (up c (j.val + 1)))
    ⊢ (owns (c : Thread nD τ) (arM.slice (mR j) (fun _ => rfl)) fullShare (fun y => am3 m c ((mR j).emb y)) : sProp 𝕄) := by
  have h : amx m (up c (j.val + 1)) = fun i => am3 m c ((mR j).emb (Shape.reshapeEquiv squeezes_S1x8x128_S8x128.numel_eq i)) := by
    funext i
    show amx m (up c (j.val + 1)) i = amx m (up c (((mR j).emb (Shape.reshapeEquiv squeezes_S1x8x128_S8x128.numel_eq i) 0).val + 1)) _
    rw [mR_0]
    rfl
  rw [h]
  exact owns_unsq c (arM.slice (mR j) (fun _ => rfl)) squeezes_S1x8x128_S8x128 fullShare (fun y => am3 m c ((mR j).emb y))

/-- The three maxima landed are the landing buffer at all three. -/
theorem m_join : iprop(owns (c : Thread nD τ) (mS 0) fullShare (amx m (up c 1)) ∗ owns (c : Thread nD τ) (mS 1) fullShare (amx m (up c 2))
      ∗ owns (c : Thread nD τ) (mS 2) fullShare (amx m (up c 3)))
    ⊢ (owns (c : Thread nD τ) arM fullShare (am3 m c) : sProp 𝕄) := by
  refine BIBase.Entails.trans ?_ (owns_of_rects (c : Thread nD τ) arM fullShare mR (fun _ _ => rfl) (fun t t' ht => rect_disj fun y y' h => ht (mR_disj h)) mR_cov (am3 m c))
  rw [bigSep_univ_eq_bigSepL [0, 1, 2] (by decide) (by decide), bigSepL_cons_cons, bigSepL_cons_cons, bigSepL_singleton]
  exact BIClass.sep_mono (m_piece m c 0) (BIClass.sep_mono (m_piece m c 1) (m_piece m c 2))

end Split

/-! ## The two halves of the accumulator and of the result -/

def hOff (i : Fin 2) : Fin 3 → ℕ := ![i.val, 0, 0]
def oOff (i : Fin 2) : Fin 2 → ℕ := ![0, 4096 * i.val]
theorem hOff_inb : ∀ i a, hOff i a + S1x1024x4096.size a ≤ S2x1024x4096.size a := by decide
theorem oOff_inb : ∀ i a, oOff i a + S1024x4096.size a ≤ S1024x8192.size a := by decide
abbrev hR (i : Fin 2) : Rect S2x1024x4096 := Rect.unit (s := S2x1024x4096) (hOff i) S1x1024x4096.size (hOff_inb i)
abbrev oR (i : Fin 2) : Rect S1024x8192 := Rect.unit (s := S1024x8192) (oOff i) S1024x4096.size (oOff_inb i)
def hS (i : Fin 2) : Memref sig .tc .vmem S1024x4096 .f32 :=
  (gM.slice (hR i) (fun _ => rfl)).squeeze S1024x4096 squeezes_S1x1024x4096_S1024x4096
def oS (i : Fin 2) : Memref sig .tc .hbm S1024x4096 .f32 := oM.slice (oR i) (fun _ => rfl)

set_option backward.proofsInPublic true in
/-- The result a device ends with. -/
def Out (c : Dev nD) : S1024x8192.Idx → F .f32 := fun i =>
  gOf (fin m c) (fun a => match a with
    | 0 => ⟨(i 1).val / 4096, by have : (i 1).val < 8192 := (i 1).isLt; show _ < 2; omega⟩
    | 1 => i 0
    | 2 => ⟨(i 1).val % 4096, Nat.mod_lt _ (by decide)⟩)

theorem hR_0 (i : Fin 2) (y : S1x1024x4096.Idx) : (hR i).emb y 0 = i := by
  have h0 : (y 0).val < 1 := (y 0).isLt
  apply Fin.ext; show i.val + 1 * (y 0).val = i.val; omega
theorem hR_disj {j j' : Fin 2} {y y' : S1x1024x4096.Idx} (h : (hR j).emb y = (hR j').emb y') : j = j' := by
  rw [← hR_0 j y, ← hR_0 j' y', h]
theorem hR_cov : (Finset.univ : Finset (Fin 2)).biUnion (fun t => (hR t).set) = Finset.univ := by
  refine Finset.eq_univ_iff_forall.mpr fun i => Finset.mem_biUnion.mpr ⟨i 0, Finset.mem_univ _, ?_⟩
  rw [← Rect.map_emb_univ, Finset.mem_map]
  refine ⟨((fun a => match a with | 0 => ⟨0, Nat.one_pos⟩ | 1 => i 1 | 2 => i 2) : S1x1024x4096.Idx), Finset.mem_univ _, ?_⟩
  funext a
  match a with
  | 0 => apply Fin.ext; show (i 0).val + 1 * 0 = (i 0).val; omega
  | 1 => apply Fin.ext; show 0 + 1 * (i 1).val = (i 1).val; omega
  | 2 => apply Fin.ext; show 0 + 1 * (i 2).val = (i 2).val; omega
theorem oR_disj {j j' : Fin 2} {y y' : S1024x4096.Idx} (h : (oR j).emb y = (oR j').emb y') : j = j' := by
  have h1 : (y 1).val < 4096 := (y 1).isLt
  have h1' : (y' 1).val < 4096 := (y' 1).isLt
  have e1 : 4096 * j.val + 1 * (y 1).val = 4096 * j'.val + 1 * (y' 1).val := congrArg (fun i : S1024x8192.Idx => (i 1).val) h
  apply Fin.ext; omega
theorem oR_cov : (Finset.univ : Finset (Fin 2)).biUnion (fun t => (oR t).set) = Finset.univ := by
  refine Finset.eq_univ_iff_forall.mpr fun i => ?_
  have h1 : (i 1).val < 8192 := (i 1).isLt
  refine Finset.mem_biUnion.mpr ⟨⟨(i 1).val / 4096, by omega⟩, Finset.mem_univ _, ?_⟩
  rw [← Rect.map_emb_univ, Finset.mem_map]
  refine ⟨((fun a => match a with | 0 => i 0 | 1 => ⟨(i 1).val % 4096, Nat.mod_lt _ (by decide)⟩) : S1024x4096.Idx), Finset.mem_univ _, ?_⟩
  funext a
  match a with
  | 0 => apply Fin.ext; show 0 + 1 * (i 0).val = (i 0).val; omega
  | 1 => apply Fin.ext; show 4096 * ((i 1).val / 4096) + 1 * ((i 1).val % 4096) = (i 1).val; omega

/-- What half `i` holds at the end. -/
def half (c : Dev nD) (i : Fin 2) : S1024x4096.Idx → Elt F .f32 := fun y => Out m c ((oR i).emb y)

theorem half_eq (c : Dev nD) (i : Fin 2) (y : S1024x4096.Idx) :
    half m c i y = gOf (fin m c) ((hR i).emb (Shape.reshapeEquiv squeezes_S1x1024x4096_S1024x4096.numel_eq y)) := by
  have h1 : (y 1).val < 4096 := (y 1).isLt
  have hr : Shape.reshapeEquiv squeezes_S1x1024x4096_S1024x4096.numel_eq y = (Fin.cons ⟨0, Nat.one_pos⟩ y : S1x1024x4096.Idx) :=
    Shape.reshapeEquiv_cons_one squeezes_S1x1024x4096_S1024x4096.numel_eq y
  rw [hr]
  unfold half Out
  congr 1
  funext a
  match a with
  | 0 => apply Fin.ext; show (4096 * i.val + 1 * (y 1).val) / 4096 = i.val + 1 * 0; omega
  | 1 => apply Fin.ext; show 0 + 1 * (y 0).val = 0 + 1 * (y 0).val; rfl
  | 2 => apply Fin.ext; show (4096 * i.val + 1 * (y 1).val) % 4096 = 0 + 1 * (y 1).val; omega

theorem half_eq' (c : Dev nD) (i : Fin 2) :
    half m c i = fun y => gOf (fin m c) ((hR i).emb (Shape.reshapeEquiv squeezes_S1x1024x4096_S1024x4096.numel_eq y)) := funext (half_eq m c i)

section Halves
variable (c : Dev nD)

theorem h_split : gPts c (fin m c) ⊢ (iprop(owns (c : Thread nD τ) (hS 0) fullShare (half m c 0) ∗ owns (c : Thread nD τ) (hS 1) fullShare (half m c 1)) : sProp 𝕄) := by
  have h : ∀ i, owns (c : Thread nD τ) (gM.slice (hR i) (fun _ => rfl)) fullShare (fun j => gOf (fin m c) ((hR i).emb j))
      ⊢ (owns (c : Thread nD τ) (hS i) fullShare (half m c i) : sProp 𝕄) := fun i =>
    by
      rw [half_eq' m c i]
      exact owns_sq c (gM.slice (hR i) (fun _ => rfl)) squeezes_S1x1024x4096_S1024x4096 fullShare (fun j => gOf (fin m c) ((hR i).emb j))
  have h0 : gPts c (fin m c) ⊢ (owns (c : Thread nD τ) gM fullShare (show S2x1024x4096.Idx → Elt F .f32 from gOf (fin m c)) : sProp 𝕄) := by
    unfold gPts; exact Entails.of_eq (owns_whole (c : Thread nD τ) cc0_scratch0 fullShare (show Buf (Elt F) ((c : Thread nD τ).loc cc0_scratch0) from gOf (fin m c))).symm
  refine (h0.trans (owns_rects (c : Thread nD τ) gM fullShare hR (fun _ _ => rfl) (fun t t' ht => rect_disj fun y y' h => ht (hR_disj h)) hR_cov (show S2x1024x4096.Idx → Elt F .f32 from gOf (fin m c)))).trans ?_
  rw [bigSep_univ_eq_bigSepL [0, 1] (by decide) (by decide), bigSepL_cons_cons, bigSepL_singleton]
  exact BIClass.sep_mono (h 0) (h 1)
theorem h_join : iprop(owns (c : Thread nD τ) (hS 0) fullShare (half m c 0) ∗ owns (c : Thread nD τ) (hS 1) fullShare (half m c 1)) ⊢ gPts c (fin m c) := by
  have h : ∀ i, owns (c : Thread nD τ) (hS i) fullShare (half m c i)
      ⊢ (owns (c : Thread nD τ) (gM.slice (hR i) (fun _ => rfl)) fullShare (fun j => gOf (fin m c) ((hR i).emb j)) : sProp 𝕄) := fun i =>
    by
      rw [half_eq' m c i]
      exact (owns_unsq c (gM.slice (hR i) (fun _ => rfl)) squeezes_S1x1024x4096_S1024x4096 fullShare (fun j => gOf (fin m c) ((hR i).emb j)))
  have h0 : (owns (c : Thread nD τ) gM fullShare (show S2x1024x4096.Idx → Elt F .f32 from gOf (fin m c)) : sProp 𝕄) ⊢ gPts c (fin m c) := by
    unfold gPts; exact Entails.of_eq (owns_whole (c : Thread nD τ) cc0_scratch0 fullShare (show Buf (Elt F) ((c : Thread nD τ).loc cc0_scratch0) from gOf (fin m c)))
  refine BIBase.Entails.trans ?_ ((owns_of_rects (c : Thread nD τ) gM fullShare hR (fun _ _ => rfl) (fun t t' ht => rect_disj fun y y' h => ht (hR_disj h)) hR_cov (show S2x1024x4096.Idx → Elt F .f32 from gOf (fin m c))).trans h0)
  rw [bigSep_univ_eq_bigSepL [0, 1] (by decide) (by decide), bigSepL_cons_cons, bigSepL_singleton]
  exact BIClass.sep_mono (h 0) (h 1)

theorem o_split (f : Buf (Elt F) ((oM : Memref sig .tc .hbm S1024x8192 .f32).view.loc (c : Thread nD τ))) :
    ((oM : Memref sig .tc .hbm S1024x8192 .f32).view.loc (c : Thread nD τ) ↦{fullShare} f : sProp 𝕄) ⊢ iprop(Any c (oS 0) ∗ Any c (oS 1)) :=
  (any_split c oM (fun i : Fin 2 => (oM.view.slice (oR i)).set) (fun q q' hq => slice_disj oM _ _ fun y y' h => hq (oR_disj h)) f).trans
    (Entails.of_eq (by
      rw [bigSep_univ_eq_bigSepL [0, 1] (by decide) (by decide), bigSepL_cons_cons, bigSepL_singleton]
      unfold Any
      rfl))
theorem o_join : iprop(owns (c : Thread nD τ) (oS 0) fullShare (half m c 0) ∗ owns (c : Thread nD τ) (oS 1) fullShare (half m c 1))
    ⊢ ((oM : Memref sig .tc .hbm S1024x8192 .f32).view.loc (c : Thread nD τ) ↦{fullShare} Out m c : sProp 𝕄) := by
  have h0 : (owns (c : Thread nD τ) oM fullShare (Out m c) : sProp 𝕄) ⊢ ((oM : Memref sig .tc .hbm S1024x8192 .f32).view.loc (c : Thread nD τ) ↦{fullShare} Out m c) :=
    Entails.of_eq (owns_whole (c : Thread nD τ) main_v1_0 fullShare (show Buf (Elt F) ((c : Thread nD τ).loc main_v1_0) from Out m c))
  refine BIBase.Entails.trans ?_ ((owns_of_rects (c : Thread nD τ) oM fullShare oR (fun _ _ => rfl) (fun t t' ht => rect_disj fun y y' h => ht (oR_disj h)) oR_cov (Out m c)).trans h0)
  rw [bigSep_univ_eq_bigSepL [0, 1] (by decide) (by decide), bigSepL_cons_cons, bigSepL_singleton]
  exact BIBase.Entails.rfl

/-! ## What the barrier's payloads are -/

/-- Device `c` pays the barrier of the device before it with its slots for the channels of direction 0, -/
theorem bar_true : barPay (F := F) (up c 3) true
    = iprop((bigSep Finset.univ fun s : Fin 3 => Any c (rS s 0)) ∗ (bigSep Finset.univ fun s : Fin 3 => Any c (rS s 2)) ∗ Any c (mS 2) ∗ Any c (mS 1)) := by
  have h0 : dst (up c 3) 0 = c := by revert c; decide
  have h2 : dst (up c 3) 2 = c := by revert c; decide
  have h1 : up (up c 3) 1 = c := by revert c; decide
  unfold barPay lent; rw [h0, h2, h1]
/-- and of the device after it with those for direction 1. -/
theorem bar_false : barPay (F := F) (up c 1) false
    = iprop((bigSep Finset.univ fun s : Fin 3 => Any c (rS s 1)) ∗ (bigSep Finset.univ fun s : Fin 3 => Any c (rS s 3)) ∗ Any c (mS 0)) := by
  have h0 : dst (up c 1) 1 = c := by revert c; decide
  have h2 : dst (up c 1) 3 = c := by revert c; decide
  have h1 : up (up c 1) 3 = c := by revert c; decide
  unfold barPay lent; rw [h0, h2, h1]
/-- The landing slot that rides on channel 1's first copy. -/
theorem rider_send : rider (F := F) (dst c 1) 0 1 = Any (up c 1) (mS 1) := by
  have h1 : up (dst c 1) 2 = up c 1 := by revert c; decide
  unfold rider; rw [if_pos ⟨rfl, rfl⟩, h1]
theorem rider_recv : rider (F := F) c 0 1 = Any (up c 2) (mS 1) := by
  unfold rider; rw [if_pos ⟨rfl, rfl⟩]
theorem rider_none (s : Fin 3) (q : Fin 4) (h : ¬ (s = 0 ∧ q = 1)) : rider (F := F) c s q = iprop(emp) := by
  unfold rider; rw [if_neg h]

end Halves

end Cert.KernelIdeal.Run

end
-- ==== Proof.KernelIdeal.Pieces.lean ====
/-
  The kernel's body on one device, from what the launch hands it to what it hands back.
-/
module

public import proofs.«01_k».proof.Proof.KernelIdeal.Slots

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KC → ℕ)

/-! ## What a device starts with and ends with -/

/-- A copy's tokens and places, and the credit for the one that lands. -/
def Evt (c : Dev nD) (e : Ev) : sProp 𝕄 :=
  iprop(toks c e ∗ atPos ER (cell c (some (false, e))) 0 ∅ 0 ∗ Pend c (true, e))

/-- The barrier's tokens, credit and place; every copy's. -/
def Ghost (c : Dev nD) : sProp 𝕄 :=
  iprop((dutyTok ER (cell (up c 3) none) 0 true ∗ dutyTok ER (cell (up c 1) none) 0 false ∗ cred (tallyAt (cell c none) () 2)
      ∗ atPos ER (cell c none) 0 ∅ 0)
    ∗ (All (fun q => Evt c (.inl (0, q))) ∗ All (fun q => Evt c (.inl (1, q))) ∗ All (fun q => Evt c (.inl (2, q))))
    ∗ (Evt c (.inr 0) ∗ Evt c (.inr 1) ∗ Evt c (.inr 2)))

/-- A whole buffer held at some contents. -/
def Hold (c : Dev nD) (b : Ref sig .tc) : sProp 𝕄 := iprop(∃ f : Buf (Elt F) ((c : Thread nD τ).loc b), (c : Thread nD τ).loc b ↦{fullShare} f)

/-- The scratch buffers. -/
def Scr (c : Dev nD) : sProp 𝕄 :=
  iprop(Hold c cc0_scratch0 ∗ Hold c cc0_scratch1 ∗ Hold c cc0_scratch2 ∗ Hold c cc0_scratch3 ∗ Hold c cc0_scratch4 ∗ Hold c cc0_scratch5)

/-- The two semaphores of local copies, at rest. -/
def Lsem (c : Dev nD) : sProp 𝕄 := iprop(semVal ((c : Thread nD τ), .dma (lsem 0)) 0 ∗ semVal ((c : Thread nD τ), .dma (lsem 1)) 0)

def Begin (c : Dev nD) : sProp 𝕄 :=
  iprop(invs m K ∗ levAts L lv ∗ Ghost c ∗ (aPts m c ∗ bPts m c ∗ Hold c main_v1_0 ∗ Hold c main_v1_1 ∗ Hold c main_v1_2) ∗ Scr c ∗ Lsem c)

/-- Every cell at zero. -/
def Zero (c : Dev nD) : sProp 𝕄 :=
  iprop((All (fun q => semVal (cell c (some (false, .inl (0, q)))) 0) ∗ All (fun q => semVal (cell c (some (false, .inl (1, q)))) 0)
      ∗ All (fun q => semVal (cell c (some (false, .inl (2, q)))) 0))
    ∗ (All (fun q => semVal (cell c (some (true, .inl (0, q)))) 0) ∗ All (fun q => semVal (cell c (some (true, .inl (1, q)))) 0)
      ∗ All (fun q => semVal (cell c (some (true, .inl (2, q)))) 0))
    ∗ (semVal (cell c (some (false, .inr 0))) 0 ∗ semVal (cell c (some (false, .inr 1))) 0 ∗ semVal (cell c (some (false, .inr 2))) 0)
    ∗ (semVal (cell c (some (true, .inr 0))) 0 ∗ semVal (cell c (some (true, .inr 1))) 0 ∗ semVal (cell c (some (true, .inr 2))) 0))

def End (c : Dev nD) : sProp 𝕄 :=
  iprop((aPts m c ∗ bPts m c ∗ ((oM : Memref sig .tc .hbm S1024x8192 .f32).view.loc (c : Thread nD τ) ↦{fullShare} Out m c))
    ∗ semVal (cell c none) 0 ∗ Zero c ∗ Lsem c ∗ Scr c)

section Pieces
variable (c : Dev nD)

theorem any_of_hold (b : Ref sig .tc) : Hold (F := F) c b ⊢ Any c (Memref.whole b) := by
  unfold Hold Any
  iintro ⟨%f, H⟩
  iexists f
  rw [show ((Memref.whole b).view.set : Finset _) = Finset.univ from View.set_whole _]
  iexact H
theorem hold_of_any (b : Ref sig .tc) : Any (F := F) c (Memref.whole b) ⊢ Hold c b := by
  unfold Hold Any
  iintro ⟨%f, H⟩
  iexists f
  rw [show ((Memref.whole b).view.set : Finset _) = Finset.univ from View.set_whole _]
  iexact H

theorem gOf_surj (f : S2x1024x4096.Idx → F .f32) : gOf (fun q y => f ((gR q).emb y)) = f := by
  funext i
  obtain ⟨q, y, rfl⟩ := exists_gR i
  rw [gOf_emb]

/-- The accumulator, at contents nothing is said of. -/
theorem gs_of_hold : Hold c cc0_scratch0 ⊢ Gs c (PG m c 0 0 0) := by
  unfold Hold Gs gPts
  iintro ⟨%f, H⟩
  iexists (fun q y => (show S2x1024x4096.Idx → F .f32 from f) ((gR q).emb y))
  isplitr; · ipureintro; exact PG_none m c 0 _
  rw [gOf_surj]
  iexact H
theorem hold_of_g (V : Fin 4 → Vec F S1x1024x2048 .f32) : gPts c V ⊢ Hold c cc0_scratch0 := by
  unfold Hold gPts
  iintro H; iexists _; iexact H

/-- The receive slots a neighbour lends, hop by hop. -/
theorem lent_split (q : Fin 4) : lent (F := F) c q ⊢ iprop(Any (dst c q) (rS 0 q) ∗ Any (dst c q) (rS 1 q) ∗ Any (dst c q) (rS 2 q)) := by
  unfold lent
  exact Entails.of_eq (by
    rw [bigSep_univ_eq_bigSepL [0, 1, 2] (by decide) (by decide), bigSepL_cons_cons, bigSepL_cons_cons, bigSepL_singleton]
    rfl)

theorem lents : iprop(lent (F := F) c 0 ∗ lent c 1 ∗ lent c 2 ∗ lent c 3)
    ⊢ iprop(All (fun q => Any (dst c q) (rS 0 q)) ∗ All (fun q => Any (dst c q) (rS 1 q)) ∗ All (fun q => Any (dst c q) (rS 2 q))) := by
  iintro ⟨H0, H1, H2, H3⟩
  ihave H0 := (lent_split c 0) $$ H0
  ihave H1 := (lent_split c 1) $$ H1
  ihave H2 := (lent_split c 2) $$ H2
  ihave H3 := (lent_split c 3) $$ H3
  icases H0 with ⟨A0, B0, C0⟩
  icases H1 with ⟨A1, B1, C1⟩
  icases H2 with ⟨A2, B2, C2⟩
  icases H3 with ⟨A3, B3, C3⟩
  unfold All
  isplitl [A0 A1 A2 A3]
  · isplitl [A0]; · iexact A0
    isplitl [A1]; · iexact A1
    isplitl [A2] <;> iassumption
  isplitl [B0 B1 B2 B3]
  · isplitl [B0]; · iexact B0
    isplitl [B1]; · iexact B1
    isplitl [B2] <;> iassumption
  isplitl [C0]; · iexact C0
  isplitl [C1]; · iexact C1
  isplitl [C2] <;> iassumption

theorem riders : Any (F := F) (up c 1) (mS 1) ⊢ All fun q => rider (dst c q) 0 q := by
  unfold All
  beta_reduce
  rw [rider_send, rider_none (dst c 0) 0 0 (by decide), rider_none (dst c 2) 0 2 (by decide), rider_none (dst c 3) 0 3 (by decide)]
  iintro H
  isplitr; · iempintro
  isplitl [H]; · iexact H
  isplitr <;> iempintro

/-- What is left of the finished copies of hop `s`: their cells at zero, and what rode on them. -/
theorem dones (s : Fin 3) : All (Done (F := F) c s)
    ⊢ iprop(All (fun q => semVal (cell c (some (false, .inl (s, q)))) 0) ∗ All (fun q => semVal (cell c (some (true, .inl (s, q)))) 0) ∗ rider c s 1) := by
  unfold All Done
  iintro ⟨⟨A0, B0, -⟩, ⟨A1, B1, C1⟩, ⟨A2, B2, -⟩, ⟨A3, B3, -⟩⟩
  isplitl [A0 A1 A2 A3]
  · isplitl [A0]; · iexact A0
    isplitl [A1]; · iexact A1
    isplitl [A2] <;> iassumption
  isplitr [C1]
  · isplitl [B0]; · iexact B0
    isplitl [B1]; · iexact B1
    isplitl [B2] <;> iassumption
  iexact C1

/-! ## The barrier -/

/-- A device signals both neighbours, lending each its receive slots, and waits for both. -/
theorem barrier (W : Finset (SemLoc sig × Unit)) {n1 n2 : Dev nD} (h1 : n1 = up c 3) (h2 : n2 = up c 1) {α : Type} {Q : α → sProp 𝕄}
    {kk : PUnit → Prog (TpuEff nD τ sig (Elt F) Λ₀ .tc) α} :
    iprop(invs m K ∗ levAts L lv ∗ owes (c : Thread nD τ) (O₀ c) W
        ∗ (dutyTok ER (cell (up c 3) none) 0 true ∗ dutyTok ER (cell (up c 1) none) 0 false ∗ cred (tallyAt (cell c none) () 2)
          ∗ atPos ER (cell c none) 0 ∅ 0)
        ∗ barPay (up c 3) true ∗ barPay (up c 1) false)
      ⊢ iprop(((OwW c 0 ∗ semVal (cell c none) 0 ∗ barPay c false ∗ barPay c true) -∗ wp frame (wpE (defs₀ (F := F)) 𝒱₀ (c : Thread nD τ) none) Set.univ (kk ⟨⟩) Q)
          -∗ wp frame (wpE (defs₀ (F := F)) 𝒱₀ (c : Thread nD τ) none) Set.univ (semSignalWord n1 barS 1#32 >>= fun _ => semSignalWord n2 barS 1#32 >>= fun _ => semWaitWord barS 2#32 >>= kk) Q) := by
  subst h1 h2
  simp only [semSignalWord, semWaitWord, Prog.lift, Prog.bind_op, Prog.bind_ret, Prog.pure_eq_ret]
  iintro ⟨#HI, #Hlev, HO, ⟨Ht1, Ht2, Hc, Hat⟩, Hp1, Hp2⟩ Hk
  ihave #Hinv := (inv_at m K c none) $$ HI
  iapply (Rounds.wp_signal 𝒱₀ ER (rd m) (c : Thread nD τ) none (dst := (up c 3 : Thread nD τ)) (κ := K (up c 3, none))
      (d := true) (by show true ∈ (rd m).duties (cell (up c 3) none) 0; rw [duties_cell]; exact Finset.mem_univ _)
      ((amount_cell m (up c 3) none true).trans (by decide)) () (O₁ c) rfl) $$ [HO Ht1 Hp1]
  · isplitr; · iapply (inv_at m K (up c 3) none); iexact HI
    isplitl [HO]; · iexact HO
    isplitl [Ht1]; · iexact Ht1
    isplitl [Hp1]; · iapply (Entails.of_eq (show (rd m).payload ((up c 3 : Thread nD τ), SemLoc.reg barS) 0 true = barPay (up c 3) true from payload_cell m (up c 3) none true).symm); iexact Hp1
    iapply (reached_at m K (up c 3) none); iexact HI
  iintro HO
  unfold O₁
  iapply (Rounds.wp_signal 𝒱₀ ER (rd m) (c : Thread nD τ) none (dst := (up c 1 : Thread nD τ)) (κ := K (up c 1, none))
      (d := false) (by show false ∈ (rd m).duties (cell (up c 1) none) 0; rw [duties_cell]; exact Finset.mem_univ _)
      ((amount_cell m (up c 1) none false).trans (by decide)) () (Ow c 0) rfl) $$ [HO Ht2 Hp2]
  · isplitr; · iapply (inv_at m K (up c 1) none); iexact HI
    isplitl [HO]; · iexact HO
    isplitl [Ht2]; · iexact Ht2
    isplitl [Hp2]; · iapply (Entails.of_eq (show (rd m).payload ((up c 1 : Thread nD τ), SemLoc.reg barS) 0 false = barPay (up c 1) false from payload_cell m (up c 1) none false).symm); iexact Hp2
    iapply (reached_at m K (up c 1) none); iexact HI
  iintro HO
  iapply (Rounds.wp_wait_rest_token 𝒱₀ ER (rd m) (c : Thread nD τ) none (κ := K (c, none))
      (wpE_semWait_eq 𝒱₀ (c : Thread nD τ) none Set.univ) (Set.mem_univ _) () (O := Ow c 0) (W := W) (R := 0) (m := 0) (T := ∅)
      (by rw [show (rd m).expect ((c : Thread nD τ), SemLoc.reg barS) 0 = 2 from expect_bar m c]; decide)) $$ [Hc HO Hat]
  · isplitr; · iexact Hinv
    isplitl [Hc]; · iexact Hc
    isplitl [HO]; · iexact HO
    isplitr; · iapply (mayWait_Ow c 0 (.reg barS) (fun e he => by rw [show lvS (.reg barS) = kLv none from lvS_csem none]; revert e; decide)); iexact Hlev
    iexact Hat
  iintro ⟨HO, Hat, -, Hpay⟩
  imod (Rounds.cell_close ER (rd m) (Set.mem_univ (K (c, none))) (fun h => h) (R := 0 + 1) (duties_later m (cell c none))) $$ [Hat] with Hz
  · isplitr; · iexact Hinv
    iexact Hat
  ihave Hpay := (Entails.of_eq (show bigSep ((rd m).duties ((c : Thread nD τ), SemLoc.reg barS) 0 \ ∅) (fun d => (rd m).payload ((c : Thread nD τ), SemLoc.reg barS) 0 d) = iprop(barPay c false ∗ barPay c true) from rest_bar m c)) $$ Hpay
  icases Hpay with ⟨Hp1, Hp2⟩
  iapply Hk
  unfold OwW
  isplitl [HO]; · iexists _; iexact HO
  isplitl [Hz]; · iexact Hz
  isplitl [Hp1] <;> iassumption

/-! ## The result copied out -/

/-- The two halves copied out side by side, each on its own semaphore. -/
theorem out_copies {S0 S1 : Memref sig .tc .vmem S1024x4096 .f32} {D0 D1 : Memref sig .tc .hbm S1024x4096 .f32} {s0 s1 s0' s1' : DmaSem sig}
    (hS0 : S0 = hS 0) (hS1 : S1 = hS 1) (hD0 : D0 = oS 0) (hD1 : D1 = oS 1) (h0 : s0 = lsem 0) (h0' : s0' = lsem 0) (h1 : s1 = lsem 1) (h1' : s1' = lsem 1)
    {a0 b0 e0 a1 b1 e1} {Sw0 Sw1 : Memref sig .tc .vmem S1024x4096 .f32} {x0 : Sw0.view.WordExact} {x0' : D0.view.WordExact}
    {x1 : Sw1.view.WordExact} {x1' : D1.view.WordExact} {α : Type} {Q : α → sProp 𝕄} {k : PUnit → Prog (TpuEff nD τ sig (Elt F) Λ₀ .tc) α} :
    iprop(LC m K c 15 ∗ (owns (c : Thread nD τ) (hS 0) fullShare (half m c 0) ∗ owns (c : Thread nD τ) (hS 1) fullShare (half m c 1)) ∗ Any c (oS 0) ∗ Any c (oS 1))
      ⊢ iprop(((LC m K c 15 ∗ (owns (c : Thread nD τ) (hS 0) fullShare (half m c 0) ∗ owns (c : Thread nD τ) (hS 1) fullShare (half m c 1))
              ∗ owns (c : Thread nD τ) (oS 0) fullShare (half m c 0) ∗ owns (c : Thread nD τ) (oS 1) fullShare (half m c 1)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma S0 (.here D0) (.dma s0) a0 b0 e0) fun _ => .op (.enqueueDma S1 (.here D1) (.dma s1) a1 b1 e1) fun _ =>
              .op (.waitDma2 s0' Sw0 D0 x0 x0') fun _ => .op (.waitDma2 s1' Sw1 D1 x1 x1') k) Q) := by
  subst hS0 hS1 hD0 hD1 h0 h0' h1 h1'
  unfold LC OwW
  iintro ⟨⟨#HI, #Hlev, Hv0, Hv1, ⟨%W, HO⟩, Ha, Hb⟩, ⟨Hs0, Hs1⟩, Hd0, Hd1⟩ Hk
  unfold owns Any
  icases Hs0 with ⟨%f0, %hf0, Hs0⟩
  icases Hs1 with ⟨%f1, %hf1, Hs1⟩
  icases Hd0 with ⟨%g0, Hd0⟩
  icases Hd1 with ⟨%g1, Hd1⟩
  iapply (Transfers.wp_dmaLocal EC 𝒱₀ (c : Thread nD τ) none () (oS 0).view.dmaCredit rfl (View.dmaCredit_pos _ (by decide)) (Finset.Subset.refl _)) $$ [Hs0 Hd0 Hv0]
  · isplitl [Hs0]; · iexact Hs0
    isplitl [Hd0]; · iexact Hd0
    iexact Hv0
  iintro HF0
  iapply (Transfers.wp_dmaLocal EC 𝒱₀ (c : Thread nD τ) none () (oS 1).view.dmaCredit rfl (View.dmaCredit_pos _ (by decide)) (Finset.Subset.refl _)) $$ [Hs1 Hd1 Hv1]
  · isplitl [Hs1]; · iexact Hs1
    isplitl [Hd1]; · iexact Hd1
    iexact Hv1
  iintro HF1
  iapply (Transfers.wp_waitLocalO EC 𝒱₀ (c : Thread nD τ) none () rfl (O := Ow c 15) (W := W)) $$ [HF0 HO]
  · isplitl [HF0]; · iexact HF0
    isplitl [HO]; · iexact HO
    iapply (mayWait_low c 15 (.dma (lsem 0)) (lvS_lsem 0)); iexact Hlev
  iintro ⟨⟨Hd0, Hs0⟩, Hv0, HO⟩
  iapply (Transfers.wp_waitLocalO EC 𝒱₀ (c : Thread nD τ) none () rfl (O := Ow c 15)) $$ [HF1 HO]
  · isplitl [HF1]; · iexact HF1
    isplitl [HO]; · iexact HO
    iapply (mayWait_low c 15 (.dma (lsem 1)) (lvS_lsem 1)); iexact Hlev
  iintro ⟨⟨Hd1, Hs1⟩, Hv1, HO⟩
  iapply Hk
  isplitl [Hv0 Hv1 HO Ha Hb]
  · isplitr; · iexact HI
    isplitr; · iexact Hlev
    isplitl [Hv0]; · iexact Hv0
    isplitl [Hv1]; · iexact Hv1
    isplitl [HO]; · iexists _; iexact HO
    isplitl [Ha]; · iexact Ha
    iexact Hb
  isplitl [Hs0 Hs1]
  · isplitl [Hs0]
    · iexists f0; isplitr; · ipureintro; exact hf0
      iexact Hs0
    iexists f1; isplitr; · ipureintro; exact hf1
    iexact Hs1
  isplitl [Hd0]
  · iexists _; isplitr
    rotate_left
    · iexact Hd0
    · ipureintro; rw [View.read_write_univ]; exact hf0
  iexists _; isplitr
  rotate_left
  · iexact Hd1
  · ipureintro; rw [View.read_write_univ]; exact hf1

end Pieces

end Cert.KernelIdeal.Run

end
-- ==== Proof.KernelIdeal.Body.lean ====
/-
  The kernel's body on one device, run from what the launch hands it to what it hands back.
-/
module

public import Idealize.ShloMosaic.Lib.MemrefSat
public import proofs.«01_k».proof.Proof.KernelIdeal.Pieces

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KC → ℕ)

section Body
variable (c : Dev nD)

theorem P8_of (V : Fin 4 → Vec F S1x1024x2048 .f32) (h : PG m c 2 2 2 V) : P8 m c 0 V := fun q =>
  (PG_all m c 2 V h q).trans (if_neg (Nat.not_lt_zero _)).symm
theorem P10_of (V : Fin 4 → Vec F S1x1024x2048 .f32) (h : P8 m c 4 V) : P10 m c 0 V := fun q =>
  ((h q).trans (if_pos q.isLt)).trans (if_neg (Nat.not_lt_zero _)).symm
theorem gs_mono {P P' : (Fin 4 → Vec F S1x1024x2048 .f32) → Prop} (h : ∀ V, P V → P' V) : Gs c P ⊢ Gs c P' := by
  unfold Gs
  iintro ⟨%V, %hV, H⟩
  iexists V
  isplitr; · ipureintro; exact h V hV
  iexact H
theorem halves (q : PosShare TreeShare) (x : S8x128.Idx → Elt F .f32) : owns (c : Thread nD τ) amM q x
    ⊣⊢ (iprop(owns (c : Thread nD τ) amM q.left x ∗ owns (c : Thread nD τ) amM q.right x) : sProp 𝕄) := owns_halves (c : Thread nD τ) amM q x
theorem shares_split : owns (c : Thread nD τ) amM fullShare (amx m c)
    ⊢ (iprop(owns (c : Thread nD τ) amM (shr 0) (amx m c) ∗ owns (c : Thread nD τ) amM (shr 1) (amx m c) ∗ owns (c : Thread nD τ) amM (shr 2) (amx m c)) : sProp 𝕄) :=
  (halves c fullShare (amx m c)).1.trans (BIClass.sep_mono BIBase.Entails.rfl (halves c fullShare.right (amx m c)).1)
theorem shares_join : iprop(owns (c : Thread nD τ) amM (shr 0) (amx m c) ∗ owns (c : Thread nD τ) amM (shr 1) (amx m c) ∗ owns (c : Thread nD τ) amM (shr 2) (amx m c))
    ⊢ (owns (c : Thread nD τ) amM fullShare (amx m c) : sProp 𝕄) :=
  BIBase.Entails.trans (BIClass.sep_mono BIBase.Entails.rfl (halves c fullShare.right (amx m c)).2) (halves c fullShare (amx m c)).2
theorem HS_zero : HS (F := F) c 0 = iprop(All (Fly c 0) ∗ All (Rdy c 1) ∗ All (Rdy c 2)) := rfl
theorem HS_two : HS (F := F) c 2 = iprop(All (Done c 0) ∗ All (Done c 1) ∗ All (Fly c 2)) := rfl

set_option maxHeartbeats 4000000 in
/-- The body, effect by effect in program order. -/
theorem sound_body (W : Finset (SemLoc sig × Unit)) (Kt : PUnit → sProp 𝕄) :
    iprop((Begin m K c ∗ owes (c : Thread nD τ) (O₀ c) W) ∗ ((End m c ∗ OwW c 15) -∗ Kt ⟨⟩))
      ⊢ wp frame (wpE (defs₀ (F := F)) 𝒱₀ (c : Thread nD τ) none) Set.univ (cc0_body (F := F) aM (Memref.isWhole_whole _) bM (Memref.isWhole_whole _) oM (Memref.isWhole_whole _) rM (Memref.isWhole_whole _)
          sM (Memref.isWhole_whole _) gM (Memref.isWhole_whole _) xvM (Memref.isWhole_whole _) wvM (Memref.isWhole_whole _) wbM (Memref.isWhole_whole _)
          amM (Memref.isWhole_whole _) arM (Memref.isWhole_whole _) cc0_scratch6 cc0_scratch7 cc0_scratch8 cc0_scratch9 cc0_scratch10) Kt := by
  simp only [cc0_body_eq_skeleton]; unfold cc0_body_skel
  simp only [k0_part7_eq_skeleton, k0_part8_eq_skeleton, k0_part9_eq_skeleton, k0_part10_eq_skeleton, k0_part11_eq_skeleton]
  unfold k0_part7_skel k0_part8_skel k0_part9_skel k0_part10_skel k0_part11_skel
  simp only [Prog.lift, Prog.bind_op, Prog.bind_ret, Prog.pure_eq_ret, Prog.bind_assoc, wp_deviceId]
  unfold Begin Ghost Scr Lsem
  iintro ⟨⟨⟨#HI, #Hlev, ⟨Hbar, ⟨E0, E1, E2⟩, Em0, Em1, Em2⟩, ⟨Ha, Hb, Ho, Hr, Hs⟩, ⟨Hg, Hx, Hw, Hwb, Ham, Har⟩, Hv0, Hv1⟩, HO⟩, Hk⟩
  -- the slots lent to the neighbours
  unfold Hold
  icases Hr with ⟨%fr, Hr⟩
  icases Hs with ⟨%fs, Hs⟩
  icases Har with ⟨%fa, Har⟩
  ihave Hr := (r_split c fr) $$ Hr
  ihave Hs := (s_split c fs) $$ Hs
  ihave Har := (m_split c fa) $$ Har
  icases Har with ⟨Hm0, Hm1, Hm2⟩
  ihave Hr := (Entails.of_eq (by unfold All; rfl)) $$ Hr
  icases Hr with ⟨Hr0, Hr1, Hr2, Hr3⟩
  iapply (barrier m K c W (dev1_eq c) (dev2_eq c)) $$ [HO Hbar Hr0 Hr1 Hr2 Hr3 Hm0 Hm1 Hm2]
  · isplitr; · iexact HI
    isplitr; · iexact Hlev
    isplitl [HO]; · iexact HO
    isplitl [Hbar]; · iexact Hbar
    rw [bar_true, bar_false]
    isplitl [Hr0 Hr2 Hm1 Hm2]
    · isplitl [Hr0]; · iexact Hr0
      isplitl [Hr2]; · iexact Hr2
      isplitl [Hm2] <;> iassumption
    isplitl [Hr1]; · iexact Hr1
    isplitl [Hr3] <;> iassumption
  unfold barPay
  iintro ⟨HO, Hzb, ⟨Hl1, Hl3, Hn0⟩, Hl0, Hl2, Hn2, Hn1⟩
  -- every ring copy's slot, with its tokens
  ihave Hl := (lents c) $$ [Hl0 Hl1 Hl2 Hl3]
  · isplitl [Hl0]; · iexact Hl0
    isplitl [Hl1]; · iexact Hl1
    isplitl [Hl2] <;> iassumption
  icases Hl with ⟨Hl0, Hl1, Hl2⟩
  ihave R0 := (all_sep' (fun q => Any (dst c q) (rS 0 q)) (fun q => Evt c (.inl (0, q)))) $$ [Hl0 E0]
  · isplitl [Hl0] <;> iassumption
  ihave R1 := (all_sep' (fun q => Any (dst c q) (rS 1 q)) (fun q => Evt c (.inl (1, q)))) $$ [Hl1 E1]
  · isplitl [Hl1] <;> iassumption
  ihave R2 := (all_sep' (fun q => Any (dst c q) (rS 2 q)) (fun q => Evt c (.inl (2, q)))) $$ [Hl2 E2]
  · isplitl [Hl2] <;> iassumption
  ihave Hn1 := (riders c) $$ Hn1
  ihave R0 := (all_sep' (fun q => rider (dst c q) 0 q) (fun q => iprop(Any (dst c q) (rS 0 q) ∗ Evt c (.inl (0, q))))) $$ [Hn1 R0]
  · isplitl [Hn1] <;> iassumption
  ihave R0 := (all_sep' (fun q => Any c (sS q)) (fun q => iprop(rider (dst c q) 0 q ∗ Any (dst c q) (rS 0 q) ∗ Evt c (.inl (0, q))))) $$ [Hs R0]
  · isplitl [Hs] <;> iassumption
  ihave Hx := (any_of_hold c cc0_scratch1) $$ [Hx]
  · unfold Hold; iexact Hx
  ihave Hw := (any_of_hold c cc0_scratch2) $$ [Hw]
  · unfold Hold; iexact Hw
  ihave Hwb := (any_of_hold c cc0_scratch3) $$ [Hwb]
  · unfold Hold; iexact Hwb
  ihave Ham := (any_of_hold c cc0_scratch4) $$ [Ham]
  · unfold Hold; iexact Ham
  ihave Hg := (gs_of_hold m c) $$ [Hg]
  · unfold Hold; iexact Hg
  -- the ring
  iapply (loop1 m K c _ _ _) $$ [HO Ha Hb Hv0 Hv1 Hx Hw Hwb R0]
  · isplitr [Hx Hw Hwb R0]
    · unfold LC
      isplitr; · iexact HI
      isplitr; · iexact Hlev
      isplitl [Hv0]; · iexact Hv0
      isplitl [Hv1]; · iexact Hv1
      isplitl [HO]; · iexact HO
      isplitl [Ha] <;> iassumption
    isplitr [R0]
    · isplitl [Hx]; · iexact Hx
      isplitl [Hw] <;> iassumption
    unfold Rdy Evt; iexact R0
  iintro ⟨HL, ⟨Hx, Hw, Hwb⟩, F0⟩
  iapply (cpx m K c 4 (rc c 0 0) (xS_of (off6a_eq c) (k0_off6_inb c 1)) rfl lsem0 lsem0) $$ [HL Hx]
  · isplitl [HL] <;> iassumption
  iintro ⟨HL, Hx⟩
  iapply (loop2 m K c 4 0 _ _ _) $$ [HL Hx Hw Hg]
  · isplitl [HL]; · iexact HL
    isplitl [Hx]; · iexact Hx
    isplitl [Hw] <;> iassumption
  iintro ⟨HL, Hx, Hw, Hg⟩
  ihave Hx := (any_of_owns c) $$ Hx
  iapply (cpx m K c 4 (rc c 1 0) (xS_of (off6b_eq c) (k0_off6_inb c 0)) rfl lsem0 lsem0) $$ [HL Hx]
  · isplitl [HL] <;> iassumption
  iintro ⟨HL, Hx⟩
  iapply (loop3 m K c 4 0 _ _ _) $$ [HL Hx Hw Hg]
  · isplitl [HL]; · iexact HL
    isplitl [Hx]; · iexact Hx
    isplitl [Hw] <;> iassumption
  iintro ⟨HL, Hx, Hw, Hg⟩
  ihave Hx := (any_of_owns c) $$ Hx
  iapply (loop4 m K c _ _ _) $$ [HL Hx Hw Hwb Hg F0 R1 R2]
  · unfold HB; rw [HS_zero]
    isplitl [HL]; · iexact HL
    isplitl [Hx Hw Hwb]
    · isplitl [Hx]; · iexact Hx
      isplitl [Hw] <;> iassumption
    isplitl [Hg]; · iexact Hg
    isplitl [F0]; · iexact F0
    unfold Rdy Evt
    isplitl [R1]; · iexact R1
    iexact R2
  unfold HB; rw [HS_two]
  iintro ⟨HL, ⟨Hx, Hw, Hwb⟩, Hg, D0, D1, F2⟩
  ihave F2 := (all_sep (fun q => Pend c (false, .inl (2, q))) (fun q => Pend c (true, .inl (2, q)))) $$ [F2]
  · unfold Fly; iexact F2
  icases F2 with ⟨F2, G2⟩
  ihave D0 := (dones c 0) $$ D0
  icases D0 with ⟨D0, D0', Hmm⟩
  ihave D1 := (dones c 1) $$ D1
  icases D1 with ⟨D1, D1', -⟩
  ihave Hmm := (Entails.of_eq (rider_recv c)) $$ Hmm
  ihave Hg := (gs_mono c (P8_of m c)) $$ Hg
  iapply (loop8 m K c _ _ _) $$ [HL Hwb Hg G2]
  · isplitl [HL]; · iexact HL
    isplitl [Hwb]; · iexact Hwb
    isplitl [Hg] <;> iassumption
  iintro ⟨HL, Hwb, Hg, D2'⟩
  iapply (loop9 m K c _ _ _ _) $$ [HL F2]
  · isplitl [HL] <;> iassumption
  iintro ⟨HL, D2⟩
  -- the maxima
  iapply (wp_lda c amM) $$ Ham; iintro %v Ham
  iapply (wp_stw c amM) $$ Ham; iintro Ham
  ihave Ham := (shares_split m c) $$ [Ham]
  · iexact Ham
  icases Ham with ⟨Hs0, Hs1, Hs2⟩
  unfold Evt
  icases Em0 with ⟨T0, At0, P0⟩
  icases Em1 with ⟨T1, At1, P1⟩
  icases Em2 with ⟨T2, At2, P2⟩
  iapply (send_max m K c 0 (dev5_eq c) rfl rfl (asem_of 0 inb_S3_S1_0) (arsem_of 0 inb_S3_S1_2)) $$ [HL Hs0 Hn2 T0]
  · isplitl [HL]; · iexact HL
    isplitl [Hs0]; · iexact Hs0
    isplitl [Hn2]; · iexact Hn2
    iexact T0
  iintro ⟨HL, C0⟩
  iapply (send_max m K c 1 (dev6_eq c) rfl rfl (asem_of 1 inb_S3_S1_1) (arsem_of 1 inb_S3_S1_1)) $$ [HL Hs1 Hmm T1]
  · isplitl [HL]; · iexact HL
    isplitl [Hs1]; · iexact Hs1
    isplitl [Hmm]; · iexact Hmm
    iexact T1
  iintro ⟨HL, C1⟩
  iapply (send_max m K c 2 (dev7_eq c) rfl rfl (asem_of 2 inb_S3_S1_2) (arsem_of 2 inb_S3_S1_0)) $$ [HL Hs2 Hn0 T2]
  · isplitl [HL]; · iexact HL
    isplitl [Hs2]; · iexact Hs2
    isplitl [Hn0]; · iexact Hn0
    iexact T2
  iintro ⟨HL, C2⟩
  iapply (wait_cell m K c (false, .inr 0) 15 (asem_of 0 inb_S3_S1_0) (lv_send 15 _) rfl) $$ [HL C0 At0]
  · isplitl [HL]; · iexact HL
    unfold Pend
    isplitl [C0]; · iexact C0
    iexact At0
  iintro ⟨HL, Z0, Hs0⟩
  iapply (wait_cell m K c (true, .inr 0) 15 (arsem_of 0 inb_S3_S1_2) (fun e he => absurd he (List.not_mem_nil)) (amount_mS 2)) $$ [HL P0]
  · isplitl [HL] <;> iassumption
  iintro ⟨HL, Y0, Hm2⟩
  iapply (wait_cell m K c (false, .inr 1) 15 (asem_of 1 inb_S3_S1_1) (lv_send 15 _) rfl) $$ [HL C1 At1]
  · isplitl [HL]; · iexact HL
    unfold Pend
    isplitl [C1]; · iexact C1
    iexact At1
  iintro ⟨HL, Z1, Hs1⟩
  iapply (wait_cell m K c (true, .inr 1) 15 (arsem_of 1 inb_S3_S1_1) (fun e he => absurd he (List.not_mem_nil)) (amount_mS 1)) $$ [HL P1]
  · isplitl [HL] <;> iassumption
  iintro ⟨HL, Y1, Hm1⟩
  iapply (wait_cell m K c (false, .inr 2) 15 (asem_of 2 inb_S3_S1_2) (lv_send 15 _) rfl) $$ [HL C2 At2]
  · isplitl [HL]; · iexact HL
    unfold Pend
    isplitl [C2]; · iexact C2
    iexact At2
  iintro ⟨HL, Z2, Hs2⟩
  iapply (wait_cell m K c (true, .inr 2) 15 (arsem_of 2 inb_S3_S1_0) (fun e he => absurd he (List.not_mem_nil)) (amount_mS 0)) $$ [HL P2]
  · isplitl [HL] <;> iassumption
  iintro ⟨HL, Y2, Hm0⟩
  unfold kPay sendPay recvPay
  ihave Ham := (shares_join m c) $$ [Hs0 Hs1 Hs2]
  · isplitl [Hs0]; · iexact Hs0
    isplitl [Hs1]; · iexact Hs1
    iexact Hs2
  ihave Har := (m_join m c) $$ [Hm0 Hm1 Hm2]
  · isplitl [Hm0]; · iexact Hm0
    isplitl [Hm1]; · iexact Hm1
    iexact Hm2
  iapply (wp_ldw c arM) $$ Har; iintro Har
  -- the result
  ihave Hg := (gs_mono c (P10_of m c)) $$ Hg
  iapply (loop10 m c _) $$ Hg
  iintro Hg
  ihave Hg := (h_split m c) $$ Hg
  icases Ho with ⟨%fo, Ho⟩
  ihave Ho := (o_split c fo) $$ Ho
  iapply (out_copies m K c rfl rfl rfl rfl lsem0 lsem0 lsem1 lsem1) $$ [HL Hg Ho]
  · isplitl [HL]; · iexact HL
    isplitl [Hg] <;> iassumption
  iintro ⟨HL, Hg, Ho⟩
  ihave Hg := (h_join m c) $$ Hg
  ihave Ho := (o_join m c) $$ Ho
  unfold LC
  icases HL with ⟨-, -, Hv0, Hv1, HO, Ha, Hb⟩
  rw [wp_ret]; imodintro
  iapply Hk
  isplitr [HO]
  · unfold End
    isplitl [Ha Hb Ho]
    · isplitl [Ha]; · iexact Ha
      isplitl [Hb] <;> iassumption
    isplitl [Hzb]; · iexact Hzb
    isplitl [D0 D1 D2 D0' D1' D2' Z0 Z1 Z2 Y0 Y1 Y2]
    · unfold Zero
      isplitl [D0 D1 D2]
      · isplitl [D0]; · iexact D0
        isplitl [D1] <;> iassumption
      isplitl [D0' D1' D2']
      · isplitl [D0']; · iexact D0'
        isplitl [D1'] <;> iassumption
      isplitl [Z0 Z1 Z2]
      · isplitl [Z0]; · iexact Z0
        isplitl [Z1] <;> iassumption
      isplitl [Y0]; · iexact Y0
      isplitl [Y1] <;> iassumption
    isplitl [Hv0 Hv1]
    · unfold Lsem
      isplitl [Hv0] <;> iassumption
    unfold Scr
    isplitl [Hg]; · iapply (hold_of_g c _) $$ Hg
    isplitl [Hx]; · iapply (hold_of_any c cc0_scratch1) $$ Hx
    isplitl [Hw]; · iapply (hold_of_any c cc0_scratch2) $$ Hw
    isplitl [Hwb]; · iapply (hold_of_any c cc0_scratch3) $$ Hwb
    isplitl [Ham]
    · ihave Ham := (any_of_owns c) $$ Ham
      iapply (hold_of_any c cc0_scratch4) $$ Ham
    ihave Har := (any_of_owns c) $$ Har
    iapply (hold_of_any c cc0_scratch5) $$ Har
  iexact HO

end Body

end Cert.KernelIdeal.Run

end
-- ==== Proof.KernelIdeal.Deal.lean ====
/-
  What the launch deals each device: the cells' tokens and places, the credit owed to it, and the cells' invariants.
-/
module

public import proofs.«01_k».proof.Proof.KernelIdeal.Pieces
public import proofs.«01_k».proof.Proof.Gen.KernelIdeal.Launch
public import Idealize.ShloMosaic.Lib.Pipeline.Launch
public import Idealize.ShloMosaic.Lib.Pipeline.Kit

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the cells and over the copies, taken apart -/

theorem big_opt {A : Type} [Fintype A] [DecidableEq A] (Φ : Option A → sProp 𝕄) :
    bigSep Finset.univ Φ = iprop(Φ none ∗ bigSep Finset.univ fun a => Φ (some a)) := by
  have h : (Finset.univ : Finset (Option A)) = insert none (Finset.univ.map Function.Embedding.some) := by
    ext x; cases x <;> simp
  rw [h, bigSep_insert (by simp), bigSep_map]; rfl

theorem big_bool (Φ : Bool × Ev → sProp 𝕄) :
    bigSep Finset.univ Φ = iprop((bigSep Finset.univ fun e => Φ (false, e)) ∗ bigSep Finset.univ fun e => Φ (true, e)) := by
  rw [bigSep_univ_prod]
  exact bigSep_univ_eq_bigSepL [false, true] (by decide) (by decide) _

theorem big_cells (Φ : KC → sProp 𝕄) :
    bigSep Finset.univ Φ = iprop(Φ none ∗ (bigSep Finset.univ fun e => Φ (some (false, e))) ∗ bigSep Finset.univ fun e => Φ (some (true, e))) := by
  rw [big_opt, big_bool]

theorem big_four (Φ : Fin 4 → sProp 𝕄) : bigSep Finset.univ Φ = All Φ :=
  bigSep_univ_eq_bigSepL [0, 1, 2, 3] (by decide) (by decide) Φ
theorem big_three (Φ : Fin 3 → sProp 𝕄) : bigSep Finset.univ Φ = iprop(Φ 0 ∗ Φ 1 ∗ Φ 2) :=
  bigSep_univ_eq_bigSepL [0, 1, 2] (by decide) (by decide) Φ

theorem big_evs (Φ : Ev → sProp 𝕄) :
    bigSep Finset.univ Φ
      = iprop((All (fun q => Φ (.inl (0, q))) ∗ All (fun q => Φ (.inl (1, q))) ∗ All (fun q => Φ (.inl (2, q))))
          ∗ (Φ (.inr 0) ∗ Φ (.inr 1) ∗ Φ (.inr 2))) := by
  rw [bigSep_univ_sum, bigSep_univ_prod, big_three (fun i => Φ (.inr i)), big_three, big_four, big_four, big_four]
  rfl

/-! ## The semaphores at rest -/

theorem ownSemFacts : Pipeline.OwnSemFacts cfg0.spec osem := by decide

def semEmb : Bool × Ev ↪ Fin 32 := ⟨evSem, by decide⟩

theorem assoc_eq (P Q R : sProp 𝕄) : iprop(P ∗ Q ∗ R) = iprop((P ∗ Q) ∗ R) := by
  have h1 : iprop(P ∗ Q ∗ R) ⊢ iprop((P ∗ Q) ∗ R) := by
    iintro ⟨H0, H1, H2⟩
    isplitr [H2]
    · isplitl [H0] <;> iassumption
    iexact H2
  have h2 : iprop((P ∗ Q) ∗ R) ⊢ iprop(P ∗ Q ∗ R) := by
    iintro ⟨⟨H0, H1⟩, H2⟩
    isplitl [H0]; · iexact H0
    isplitl [H1] <;> iassumption
  exact Entails.antisymm h1 h2

theorem own_sems (c : Dev nD) :
    (Pipeline.ownSems0 (Ix := Unit) (Name := ℕ) (U := UU) (Lvl := ℕ) (Val := Elt F) (τ := τ) osem c : sProp 𝕄)
      = iprop((semVal ((c : Thread nD τ), .dma (lsem 0)) 0 ∗ semVal ((c : Thread nD τ), .dma (lsem 1)) 0)
          ∗ bigSep Finset.univ fun be : Bool × Ev => semVal (cell c (some be)) 0) := by
  have h : (Finset.univ : Finset (Fin 32)) = insert (lsem 0 : Fin 32) (insert (lsem 1 : Fin 32) (Finset.univ.map semEmb)) := by decide
  unfold Pipeline.ownSems0
  rw [h, bigSep_insert (by decide), bigSep_insert (by decide), bigSep_map]
  show iprop(semVal ((c : Thread nD τ), .dma (lsem 0)) 0 ∗ semVal ((c : Thread nD τ), .dma (lsem 1)) 0
    ∗ bigSep Finset.univ fun be : Bool × Ev => semVal (cell c (some be)) 0) = _
  exact assoc_eq _ _ _

theorem bar_sem (c : Dev nD) : (unscopedSems0 c : sProp 𝕄) = semVal (cell c none) 0 := by
  unfold unscopedSems0; rw [bigSep_eq_bigSepL_of_eq [SemLoc.reg barS] (by decide) (by decide)]; rfl

theorem rest_sems (c : Dev nD) :
    iprop(Pipeline.ownSems0 (Ix := Unit) (Name := ℕ) (U := UU) (Lvl := ℕ) (Val := Elt F) (τ := τ) osem c ∗ unscopedSems0 c)
      ⊢ (iprop(Lsem c ∗ bigSep Finset.univ fun k : KC => semVal (cell c k) 0) : sProp 𝕄) := by
  rw [own_sems, bar_sem, big_opt]
  unfold Lsem
  iintro ⟨⟨HL, HE⟩, HB⟩
  isplitl [HL]; · iexact HL
  isplitl [HB]; · iexact HB
  iexact HE

/-- The cells, closed, are the semaphores at rest again. -/
theorem zero_sems (c : Dev nD) :
    iprop(Lsem c ∗ Zero c)
      ⊢ (Pipeline.ownSems0 (Ix := Unit) (Name := ℕ) (U := UU) (Lvl := ℕ) (Val := Elt F) (τ := τ) osem c : sProp 𝕄) := by
  rw [own_sems, big_bool, big_evs, big_evs]
  unfold Lsem Zero
  iintro ⟨HL, HA, HB, HC, HD⟩
  isplitl [HL]; · iexact HL
  isplitl [HA HC]
  · isplitl [HA] <;> iassumption
  isplitl [HB] <;> iassumption

/-! ## The launch element, and what it deals a device -/

theorem cellEmb_inj : Function.Injective (fun ck : Dev nD × KC => cell ck.1 ck.2) :=
  fun a b h => Prod.ext (cell_inj h).1 (cell_inj h).2
def theCells : Finset (GSem nD τ sig) := Finset.univ.map ⟨fun ck : Dev nD × KC => cell ck.1 ck.2, cellEmb_inj⟩

/-- The duties of a device's cells: its barrier's second, and the first of every cell. -/
def tokOf (x : Dev nD × Option KC) : GSem nD τ sig × ℕ × Bool := match x.2 with
  | none => (cell x.1 none, 0, true)
  | some k => (cell x.1 k, 0, false)
theorem tokOf_inj : Function.Injective tokOf := by
  rintro ⟨c, j⟩ ⟨c', j'⟩ h
  cases j <;> cases j'
  · have := cell_inj (congrArg (fun x : GSem nD τ sig × ℕ × Bool => x.1) h); exact Prod.ext this.1 rfl
  · exact absurd (show true = false from congrArg (fun x : GSem nD τ sig × ℕ × Bool => x.2.2) h) (by decide)
  · exact absurd (show false = true from congrArg (fun x : GSem nD τ sig × ℕ × Bool => x.2.2) h) (by decide)
  · have := cell_inj (congrArg (fun x : GSem nD τ sig × ℕ × Bool => x.1) h)
    exact Prod.ext this.1 (congrArg some this.2)
def theToks : Finset (GSem nD τ sig × ℕ × Bool) := Finset.univ.map ⟨tokOf, tokOf_inj⟩

def u₀ : UU :=
  (initOf (Pipeline.cells cfgs cellOf_inj) (Pipeline.launchToks cfgs cellOf_inj), (initOf theCells theToks, 1))

/-- The tokens of a device's own cells. -/
def ownToks (c : Dev nD) : sProp 𝕄 :=
  iprop(dutyTok ER (cell c none) 0 true ∗ bigSep Finset.univ fun k : KC => dutyTok ER (cell c k) 0 false)

/-- What the launch element deals a device. -/
def Dealt (c : Dev nD) : sProp 𝕄 :=
  iprop((bigSep Finset.univ fun k : KC => roundState ER (rd m) (cell c k) 0)
    ∗ (bigSep Finset.univ fun k : KC => atPos ER (cell c k) 0 ∅ 0) ∗ (bigSep Finset.univ fun k : KC => reached ER (cell c k) 0)
    ∗ ownToks c)

theorem fund : BI.own (ER (initOf theCells theToks)) ⊢ (|==> bigSep Finset.univ (Dealt m) : sProp 𝕄) := by
  have hX (Φ : GSem nD τ sig → sProp 𝕄) :
      bigSep theCells Φ = bigSep Finset.univ fun c : Dev nD => bigSep Finset.univ fun k : KC => Φ (cell c k) := by
    unfold theCells; rw [bigSep_map, bigSep_univ_prod]; rfl
  have hT : bigSep theToks (fun x => (dutyTok ER x.1 x.2.1 x.2.2 : sProp 𝕄)) = bigSep Finset.univ fun c : Dev nD => ownToks c := by
    unfold theToks; rw [bigSep_map, bigSep_univ_prod]
    exact bigSep_congr fun c _ => by unfold ownToks; rw [big_opt]; rfl
  iintro HX
  imod (Rounds.fund ER (rd m) theCells theToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Dealt; simp only [bigSep_sep']
  isplitl [Hst']; · iexact Hst'
  isplitl [Hat']; · iexact Hat'
  isplitl [Hr'] <;> iassumption

/-! ## The tokens dealt to those who pay -/

/-- What a device holds to pay with. -/
def payToks (c : Dev nD) : sProp 𝕄 :=
  iprop(dutyTok ER (cell (up c 3) none) 0 true ∗ dutyTok ER (cell (up c 1) none) 0 false ∗ bigSep Finset.univ fun e : Ev => toks c e)

def ringUp (i j : ℕ) (h : ∀ c : Dev nD, up (up c i) j = c) (h' : ∀ c : Dev nD, up (up c j) i = c) : Dev nD ≃ Dev nD :=
  ⟨fun c => up c i, fun c => up c j, h, h'⟩
def evMove : Dev nD × Ev ≃ Dev nD × Ev :=
  ⟨fun x => (evDst x.1 x.2, x.2), fun x => (evSrc x.1 x.2, x.2), fun x => Prod.ext (evSrc_dst x.1 x.2) rfl,
    fun x => Prod.ext (evDst_src x.1 x.2) rfl⟩

theorem deal : (bigSep Finset.univ fun c : Dev nD => (ownToks c : sProp 𝕄)) ⊢ bigSep Finset.univ fun c : Dev nD => payToks c := by
  unfold ownToks payToks toks
  simp only [big_cells, bigSep_sep']
  have e1 : (bigSep Finset.univ fun c : Dev nD => bigSep Finset.univ fun e : Ev => (dutyTok ER (cell c (some (true, e))) 0 false : sProp 𝕄))
      = bigSep Finset.univ fun c : Dev nD => bigSep Finset.univ fun e : Ev => dutyTok ER (cell (evDst c e) (some (true, e))) 0 false := by
    rw [← bigSep_univ_prod (fun x : Dev nD × Ev => (dutyTok ER (cell x.1 (some (true, x.2))) 0 false : sProp 𝕄)),
      ← bigSep_univ_prod (fun x : Dev nD × Ev => (dutyTok ER (cell (evDst x.1 x.2) (some (true, x.2))) 0 false : sProp 𝕄)),
      bigSep_univ_equiv evMove]
    rfl
  rw [e1, bigSep_univ_equiv (ringUp 3 1 (by decide) (by decide)) (fun c : Dev nD => (dutyTok ER (cell c none) 0 true : sProp 𝕄)),
    bigSep_univ_equiv (ringUp 1 3 (by decide) (by decide)) (fun c : Dev nD => (dutyTok ER (cell c none) 0 false : sProp 𝕄))]
  exact BIBase.Entails.rfl

/-! ## The global step -/

/-- What a device holds of its cells once their invariants stand, beside its credit. -/
def Linear (c : Dev nD) : sProp 𝕄 :=
  iprop(Lsem c ∗ (bigSep Finset.univ fun k : KC => atPos ER (cell c k) 0 ∅ 0) ∗ payToks c)
def Ready (c : Dev nD) : sProp 𝕄 := iprop(∃ K, invs m K ∗ Linear c)

theorem core_alloc (c : Dev nD) :
    iprop(Pipeline.ownSems0 (Ix := Unit) (Name := ℕ) (U := UU) (Lvl := ℕ) (Val := Elt F) (τ := τ) osem c ∗ unscopedSems0 c ∗ Dealt m c)
      ⊢ |={Set.univ}=> iprop((bigSep Finset.univ fun k => iprop(∃ κ : ℕ, cellInv ER (rd m) κ (cell c k)))
          ∗ (bigSep Finset.univ fun k => reached ER (cell c k) 0)
          ∗ (Lsem c ∗ (bigSep Finset.univ fun k => atPos ER (cell c k) 0 ∅ 0)) ∗ ownToks c) := by
  unfold Dealt
  iintro ⟨Hos, Hus, Hst, Hat, Hr, Htok⟩
  ihave Hv := (rest_sems (F := F) c) $$ [Hos Hus]
  · isplitl [Hos] <;> iassumption
  icases Hv with ⟨HL, Hv⟩
  imod (show iprop((bigSep Finset.univ fun k : KC => semVal (cell c k) 0) ∗ bigSep Finset.univ fun k : KC => roundState ER (rd m) (cell c k) 0)
      ⊢ (|={Set.univ}=> bigSep Finset.univ fun k => iprop(∃ κ : ℕ, cellInv ER (rd m) κ (cell c k)) : sProp 𝕄) from by
        rw [← bigSep_sep']
        exact (bigSep_mono fun k _ => (Rounds.body_intro ER (rd m) (cell c k)).trans inv_alloc).trans (bigSep_fupd _ _)) $$ [Hv Hst] with Hinv
  · isplitl [Hv] <;> iassumption
  imodintro
  isplitl [Hinv]; · iexact Hinv
  isplitl [Hr]; · iexact Hr
  isplitl [HL Hat]
  · isplitl [HL] <;> iassumption
  iexact Htok

theorem keep_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (cell c k)))
          ∗ (bigSep Finset.univ fun k => reached ER (cell c k) 0)
          ∗ (Lsem c ∗ (bigSep Finset.univ fun k => atPos ER (cell c k) 0 ∅ 0)) ∗ ownToks c) : sProp 𝕄)
      ⊢ bigSep Finset.univ (Ready m) := by
  rw [bigSep_sep', bigSep_sep', bigSep_sep',
    ← bigSep_univ_prod (fun ck : Dev nD × KC => iprop(∃ κ : ℕ, cellInv ER (rd m) κ (cell ck.1 ck.2))),
    ← bigSep_univ_prod (fun ck : Dev nD × KC => (reached ER (cell ck.1 ck.2) 0 : sProp 𝕄))]
  iintro ⟨HI, #HR, Hat, Htok⟩
  ihave HK := (BI.bigSep_exists_pi Finset.univ (fun (ck : Dev nD × KC) (κ : ℕ) => (cellInv ER (rd m) κ (cell ck.1 ck.2) : sProp 𝕄))) $$ HI
  icases HK with ⟨%K, #HI⟩
  ihave Htk := (deal (F := F)) $$ Htok
  iapply (keep_all (R := invs m K) (Φ := fun c : Dev nD => iprop((Lsem c ∗ (bigSep Finset.univ fun k : KC => atPos ER (cell c k) 0 ∅ 0)) ∗ payToks c))
    (Ψ := Ready m) fun c _ => by
      unfold Ready Linear
      iintro ⟨HI, ⟨H1, H2⟩, H3⟩
      iexists K
      isplitl [HI]; · iexact HI
      isplitl [H1]; · iexact H1
      isplitl [H2] <;> iassumption)
  isplitr
  · unfold invs; isplitl; · iexact HI
    iexact HR
  · iapply (Entails.of_eq (bigSep_sep' Finset.univ
      (fun c : Dev nD => iprop(Lsem c ∗ (bigSep Finset.univ fun k : KC => atPos ER (cell c k) 0 ∅ 0))) (fun c => (payToks c : sProp 𝕄))).symm)
    isplitl [Hat]; · iexact Hat
    iexact Htk

theorem glob : (bigSep Finset.univ fun c => iprop(Pipeline.ownSems0 (Ix := Unit) (Name := ℕ) (U := UU) (Lvl := ℕ) (Val := Elt F) (τ := τ) osem c
        ∗ unscopedSems0 c ∗ Dealt m c) : sProp 𝕄)
    ⊢ |={Set.univ}=> bigSep Finset.univ (Ready m) :=
  ((bigSep_mono fun c _ => core_alloc m c).trans (bigSep_fupd _ _)).trans (BI.fupd_mono (regroup m))

/-! ## The credit -/

theorem OL_bar (d c : Dev nD) (l : List Ev) : OL d l (cell c none) () = 0 := by
  induction l with
  | nil => rfl
  | cons e l ih =>
    unfold OL
    rw [Pi.add_apply, Finsupp.add_apply, ih, tallyAt_apply, if_neg fun h => absurd (cell_inj h.1).2 (by simp)]

theorem OL_other (d c : Dev nD) (e : Ev) (l : List Ev) (hl : e ∉ l) : OL d l (cell c (some (true, e))) () = 0 := by
  induction l with
  | nil => rfl
  | cons e' l ih =>
    unfold OL
    rw [Pi.add_apply, Finsupp.add_apply, ih (fun h => hl (List.mem_cons_of_mem _ h)), tallyAt_apply, if_neg fun h => ?_]
    have := (cell_inj h.1).2
    exact hl (by simp only [Option.some.injEq, Prod.mk.injEq] at this; rw [this.2]; exact List.mem_cons_self)

theorem OL_recv (d c : Dev nD) (e : Ev) (l : List Ev) (he : e ∈ l) (hl : l.Nodup) :
    OL d l (cell c (some (true, e))) () = if d = evSrc c e then evN e else 0 := by
  induction l with
  | nil => exact absurd he List.not_mem_nil
  | cons e' l ih =>
    unfold OL
    rw [Pi.add_apply, Finsupp.add_apply, tallyAt_apply]
    by_cases h : e = e'
    · subst h
      rw [OL_other d c e l (List.nodup_cons.mp hl).1, Nat.zero_add]
      by_cases hd : d = evSrc c e
      · rw [if_pos ⟨by rw [hd, evDst_src], rfl⟩, if_pos hd]
      · rw [if_neg (fun h => hd (by rw [(cell_inj h.1).1, evSrc_dst])), if_neg hd]
    · rw [ih ((List.mem_cons.mp he).resolve_left h) (List.nodup_cons.mp hl).2]
      refine (congrArg _ (if_neg fun h' => h ?_)).trans (Nat.add_zero _)
      have := (cell_inj h'.1).2
      simp only [Option.some.injEq, Prod.mk.injEq] at this; exact this.2

theorem evs_all : ∀ e : Ev, e ∈ evs.drop 0 := by
  rintro (⟨s, q⟩ | i)
  · fin_cases s <;> fin_cases q <;> simp [evs]
  · fin_cases i <;> simp [evs]

theorem up_one (c d : Dev nD) : c = up d 1 ↔ d = up c 3 := by revert c d; decide
theorem up_three (c d : Dev nD) : c = up d 3 ↔ d = up c 1 := by revert c d; decide

theorem owed_bar (d c : Dev nD) : O₀ d (cell c none) () = (if d = up c 3 then 1 else 0) + (if d = up c 1 then 1 else 0) := by
  have h (a b : Dev nD) (hab : c = a ↔ d = b) : tallyAt (cell a none) () 1 (cell c none) () = if d = b then 1 else 0 := by
    rw [tallyAt_apply]
    by_cases hd : d = b
    · rw [if_pos ⟨by rw [hab.mpr hd], rfl⟩, if_pos hd]
    · rw [if_neg (fun h => hd (hab.mp (cell_inj h.1).1)), if_neg hd]
  unfold O₀ O₁ Ow
  rw [Pi.add_apply, Finsupp.add_apply, Pi.add_apply, Finsupp.add_apply, OL_bar, h _ _ (up_one c d), h _ _ (up_three c d), Nat.zero_add]

theorem owed_recv (d c : Dev nD) (e : Ev) : O₀ d (cell c (some (true, e))) () = if d = evSrc c e then evN e else 0 := by
  have h (a : Dev nD) : tallyAt (cell a none) () 1 (cell c (some (true, e))) () = 0 := by
    rw [tallyAt_apply, if_neg fun h => absurd (cell_inj h.1).2 (by simp)]
  unfold O₀ O₁ Ow
  rw [Pi.add_apply, Finsupp.add_apply, Pi.add_apply, Finsupp.add_apply, h, h, OL_recv d c e _ (evs_all e) (by decide)]
  rfl

theorem launch_bar (c : Dev nD) :
    tallyOn (cell c none) (launchCredit (Pipeline.owing O₀) 0 (cell c none)) = (tallyAt (cell c none) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (up c 3) fun _ => 1, Finset.sum_ite_eq' Finset.univ (up c 1) fun _ => 1, if_pos (Finset.mem_univ _), if_pos (Finset.mem_univ _)]

theorem launch_recv (c : Dev nD) (e : Ev) :
    tallyOn (cell c (some (true, e))) (launchCredit (Pipeline.owing O₀) 0 (cell c (some (true, e))))
      = (tallyAt (cell c (some (true, e))) () (evN e) : CellTallies nD τ sig Unit) := by
  unfold tallyAt; refine congrArg _ (Finsupp.ext fun u => ?_); cases u
  rw [Pipeline.launchCredit_owing, Finsupp.single_eq_same, Finset.sum_congr rfl fun d _ => owed_recv d c e,
    Finset.sum_ite_eq' Finset.univ (evSrc c e) fun _ => evN e, if_pos (Finset.mem_univ _)]

theorem credits (c : Dev nD) :
    (Pipeline.launchCred O₀ c : sProp 𝕄)
      ⊢ iprop(cred (tallyAt (cell c none) () 2) ∗ bigSep Finset.univ fun e : Ev => cred (tallyAt (cell c (some (true, e))) () (evN e))) := by
  unfold Pipeline.launchCred
  refine (bigSep_subset (Finset.subset_univ (Finset.univ.map ⟨csem, csem_inj⟩))).trans ?_
  rw [bigSep_map, big_cells]
  show iprop(cred (tallyOn (cell c none) (launchCredit (Pipeline.owing O₀) 0 (cell c none)))
      ∗ (bigSep Finset.univ fun e : Ev => cred (tallyOn (cell c (some (false, e))) (launchCredit (Pipeline.owing O₀) 0 (cell c (some (false, e))))))
      ∗ (bigSep Finset.univ fun e : Ev => cred (tallyOn (cell c (some (true, e))) (launchCredit (Pipeline.owing O₀) 0 (cell c (some (true, e)))))))
    ⊢ iprop(cred (tallyAt (cell c none) () 2) ∗ bigSep Finset.univ fun e : Ev => cred (tallyAt (cell c (some (true, e))) () (evN e)))
  have h : (bigSep Finset.univ fun e : Ev => (cred (tallyOn (cell c (some (true, e))) (launchCredit (Pipeline.owing O₀) 0 (cell c (some (true, e))))) : sProp 𝕄))
      = bigSep Finset.univ fun e : Ev => cred (tallyAt (cell c (some (true, e))) () (evN e)) :=
    bigSep_congr fun e _ => by rw [launch_recv]
  rw [← h, ← launch_bar]
  iintro ⟨H1, -, H2⟩
  isplitl [H1]; · iexact H1
  iexact H2

/-- Everything a device starts with, of its cells. -/
theorem ghost_of (c : Dev nD) :
    iprop(((bigSep Finset.univ fun k : KC => atPos ER (cell c k) 0 ∅ 0) ∗ payToks c)
        ∗ (cred (tallyAt (cell c none) () 2) ∗ bigSep Finset.univ fun e : Ev => cred (tallyAt (cell c (some (true, e))) () (evN e))))
      ⊢ (Ghost c : sProp 𝕄) := by
  have h : (iprop((bigSep Finset.univ fun e : Ev => toks c e) ∗ (bigSep Finset.univ fun e : Ev => atPos ER (cell c (some (false, e))) 0 ∅ 0)
      ∗ ((bigSep Finset.univ fun e : Ev => cred (tallyAt (cell c (some (true, e))) () (evN e)))
        ∗ (bigSep Finset.univ fun e : Ev => atPos ER (cell c (some (true, e))) 0 ∅ 0))) : sProp 𝕄)
      = bigSep Finset.univ fun e : Ev => Evt c e := by
    unfold Evt Pend; rw [bigSep_sep', bigSep_sep', bigSep_sep']
  rw [big_evs (fun e => Evt c e)] at h
  rw [big_cells]
  unfold payToks Ghost
  iintro ⟨⟨⟨HA, HF, HT⟩, Ht, Hf, Hk⟩, H2, HC⟩
  isplitl [HA Ht Hf H2]
  · isplitl [Ht]; · iexact Ht
    isplitl [Hf]; · iexact Hf
    isplitl [H2] <;> iassumption
  iapply (Entails.of_eq h)
  isplitl [Hk]; · iexact Hk
  isplitl [HF]; · iexact HF
  isplitl [HC] <;> iassumption

end Cert.KernelIdeal.Run

end
-- ==== Proof.KernelIdeal.Launch.lean ====
/-
  The launch: from any memory with every counter at zero the program runs, each device's result array ends at `Out`,
  its arguments as they were, and every counter at zero again.
-/
module

public import proofs.«01_k».proof.Proof.KernelIdeal.Body
public import proofs.«01_k».proof.Proof.KernelIdeal.Deal
public import proofs.«01_k».proof.Proof.Gen.KernelIdeal.Points
public import Idealize.ShloMosaic.Lib.Pipeline.CollectiveSegs
public import Idealize.ShloMosaic.Lib.Quiescent

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- What a device enters the region with, beside its scratch buffers. -/
def Start (c : Dev nD) : sProp 𝕄 :=
  iprop(∃ K, invs m K ∗ levAts L lv ∗ Ghost c ∗ (aPts m c ∗ bPts m c ∗ Hold c main_v1_0 ∗ Hold c main_v1_1 ∗ Hold c main_v1_2) ∗ Lsem c)

def Φ₀ (c : Dev nD) : sProp 𝕄 := iprop(∃ K, Begin m K c)

def dats (_ : Fin 1) (c : Dev nD) : Dat τ (Elt F) Unit ℕ UU ℕ cfg0 c where
  A w := (s₀ m ρ).mem ((cfg0.win w).arr.view.loc (c : Thread nD τ))
  after w _ := w.elim0
  Φ t := match t with
    | ⟨0, _⟩ => Φ₀ m c
    | ⟨_ + 1, _⟩ => End m c
  q _ := fullShare
  owed t := match t with
    | ⟨0, _⟩ => O₀ c
    | ⟨_ + 1, _⟩ => 0

theorem body_obligation (c : Dev nD) : BodyObligation (dats (F := F) m ρ 0 c) (defs₀ (F := F)) 𝒱₀ () Set.univ := fun t => by
  rw [fin_N0 t]
  show iprop(Φ₀ m c ∗ (dats (F := F) m ρ 0 c).owesAt () (t0_0 : Fin cfg0.N).castSucc ∗ bigSep (Finset.univ : Finset (Fin 0)) _)
    ⊢ wp frame (wpE (defs₀ (F := F)) 𝒱₀ (c : Thread nD τ) none) Set.univ (bodyAt0 t0_0)
      (fun _ => iprop(End m c ∗ (dats (F := F) m ρ 0 c).owesAt () (t0_0 : Fin cfg0.N).succ ∗ bigSep (Finset.univ : Finset (Fin 0)) _))
  unfold Φ₀
  iintro ⟨⟨%K, HB⟩, Ho, -⟩
  unfold Dat.owesAt Pipeline.owesWithin
  icases Ho with ⟨%W, %hW, HO⟩
  rw [show (dats (F := F) m ρ 0 c).owed (t0_0 : Fin cfg0.N).castSucc = O₀ c from rfl]
  iapply (sound_body m K c W _)
  isplitl [HB HO]
  · isplitl [HB] <;> iassumption
  iintro ⟨HE, HO⟩
  isplitl [HE]; · iexact HE
  isplitl [HO]
  · unfold OwW
    icases HO with ⟨%W', HO⟩
    iexists W'
    isplitr
    · ipureintro; exact fun _ _ => Or.inl trivial
    rw [Ow_end]
    iexact HO
  rw [Finset.univ_eq_empty, bigSep_empty]
  iempintro

theorem share_eq (c : Dev nD) (w : Fin cfg0.W) : (dats (F := F) m ρ 0 c).share w = fullShare := w.elim0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Ready m c)
      ⊢ |={Set.univ}=> iprop(Start m c ∗ emp) := by
  rw [Pipeline.unscopedRestP_none, unscopedRest0_eq]
  iintro ⟨⟨Ha, Hb, H0, H1, H2⟩, Hlev, Hcr, -, HG⟩
  ihave Hc := (credits (F := F) c) $$ Hcr
  unfold Ready Linear
  icases HG with ⟨%K, HI, HL, Hat, Htk⟩
  imodintro
  isplitl
  · unfold Start
    iexists K
    isplitl [HI]; · iexact HI
    isplitl [Hlev]; · iexact Hlev
    isplitl [Hat Htk Hc]
    · iapply (ghost_of (F := F) c)
      isplitl [Hat Htk]
      · isplitl [Hat] <;> iassumption
      iexact Hc
    isplitr [HL]
    · unfold aPts bPts Hold
      isplitl [Ha]; · iexact Ha
      isplitl [Hb]; · iexact Hb
      isplitl [H0]; · iexists _; iexact H0
      isplitl [H1]; · iexists _; iexact H1
      iexists _; iexact H2
    iexact HL
  · iempintro

theorem phi0_intro (c : Dev nD) :
    iprop(Start m c ∗ Pipeline.prefHeld Pipeline.Prefetch.none c (fun _ => fullShare.right) (fun k => k.elim0) ∗ Pipeline.scopedRest cfg0.spec c)
      ⊢ (dats (F := F) m ρ 0 c).Φ 0 := by
  rw [show (dats (F := F) m ρ 0 c).Φ 0 = Φ₀ m c from rfl, scopedRest0_eq]
  unfold Φ₀ Start Begin
  iintro ⟨⟨%K, HI, Hlev, HG, HA, HL⟩, -, HS⟩
  iexists K
  isplitl [HI]; · iexact HI
  isplitl [Hlev]; · iexact Hlev
  isplitl [HG]; · iexact HG
  isplitl [HA]; · iexact HA
  isplitl [HS]; · unfold Scr Hold; iexact HS
  iexact HL

/-- What a device leaves the region with. -/
def Left (c : Dev nD) : sProp 𝕄 :=
  iprop((aPts m c ∗ bPts m c ∗ ((oM : Memref sig .tc .hbm S1024x8192 .f32).view.loc (c : Thread nD τ) ↦{fullShare} Out m c)) ∗ unscopedSems0 c)

theorem phi1_exit (c : Dev nD) :
    (dats (F := F) m ρ 0 c).Φ (Fin.last cfg0.N) ⊢ iprop(Left m c ∗ Pipeline.ownSems0 osem c ∗ Pipeline.scopedRest cfg0.spec c) := by
  rw [show (dats (F := F) m ρ 0 c).Φ (Fin.last cfg0.N) = End m c from rfl, scopedRest0_eq]
  unfold End Left
  rw [bar_sem]
  iintro ⟨HA, HB, HZ, HL, HS⟩
  isplitl [HA HB]
  · isplitl [HA] <;> iassumption
  isplitl [HZ HL]
  · iapply (zero_sems (F := F) c)
    isplitl [HL] <;> iassumption
  unfold Scr Hold; iexact HS

theorem waits (c : Dev nD) : (levAts L lv : sProp 𝕄) ⊢ Pipeline.cellsWaits cfgs (dats (F := F) m ρ) () 0 c :=
  Pipeline.cellsWaits_intro cfgs (dats m ρ) () 0 c fun w _ _ => w.elim0

/-- What one device's arrays hold at the end. -/
def Ends (c : Dev nD) (s : MemSt nD τ sig (Elt F)) : Prop :=
  s.mem ((c : Thread nD τ).loc main_v1_0) = Out m c
  ∧ s.mem ((c : Thread nD τ).loc main_arg0) = m ((c : Thread nD τ).loc main_arg0)
  ∧ s.mem ((c : Thread nD τ).loc main_arg1) = m ((c : Thread nD τ).loc main_arg1)

theorem left_read (c : Dev nD) (s' : Phys nD τ sig (Elt F)) :
    iprop(Left m c ∗ emp ∗ SI s')
      ⊢ |={Set.univ}=> iprop(⌜Ends m c s'.mem ∧ ∀ sm : SemLoc sig, sm.isScoped .tc = false → s'.mem.sem ((c.tc : Thread nD τ), sm) = 0⌝ ∗ SI s') := by
  unfold Left aPts bPts
  iintro ⟨⟨⟨Ha, Hb, Ho⟩, Hu⟩, -, HSI⟩
  icombine HSI Ha gives %ha
  icombine HSI Hb gives %hb
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨⟨funext fun i => ho i (Finset.mem_univ i), funext fun i => ha i (Finset.mem_univ i), funext fun i => hb i (Finset.mem_univ i)⟩, hu⟩
  iexact HSI

set_option maxRecDepth 8000 in
theorem run_main : θ_run defs (onTc (τ := τ) (main (F := F))) (s₀ m ρ)
    (fun r => (∀ c : Dev nD, Ends m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := Dealt m) (G' := Ready m) (u₀ := u₀)
    (hu₀ := by
      unfold u₀
      iintro Hu
      ihave H := (ownU_pair _ _) $$ Hu
      icases H with ⟨HP, HX⟩
      imod (show BI.own ((embR : Emb (UB × Counters) 𝕄) (initOf theCells theToks, 1)) ⊢ (|==> bigSep Finset.univ (Dealt m) : sProp 𝕄) from fund m) $$ HX with HG
      imodintro
      isplitl [HP] <;> iassumption)
    (hglob := glob m)
    (hA := fun _ _ => rfl) (hpf := fun _ k => k.elim0)
    (X := Start m) (Y := Left m) (Z := fun _ => iprop(emp))
    (hX := start_intro m ρ) (hin := phi0_intro m ρ) (hout := phi1_exit m ρ)
    (QY := fun c s => Ends m c s ∧ ∀ sm : SemLoc sig, sm.isScoped .tc = false → s.sem ((c.tc : Thread nD τ), sm) = 0)
    (hY := left_read m)
    (hQ := fun _ h hs => ⟨fun c => (h c).2.2.1, sem_eq_zero hs fun c => (h c).2.2.2⟩)

end Cert.KernelIdeal.Run

end
-- ==== Proof.Arith.lean ====
/-
  Facts on the extended reals the value claim uses: what the four constants denote, a quotient rounded and
  cut from below, a maximum over a whole array, and a sum over blocks.
-/
module

public import Idealize.ShloMosaic.PureOps.Ideal.Laws
public import Idealize.ShloMosaic.PureOps.Reduce
public import Idealize.ShloMosaic.Lib.ValueIdxCore

@[expose] public section

noncomputable section

namespace Cert.Arith

open Idealize.ShloMosaic Idealize.ShloMosaic.ValueIdx
open scoped BigOperators

/-! ## Constants -/

theorem hi_val : Ideal.ofBits .f32 0x42FE0000#32 = ((127 : ℝ) : EReal) := by
  simp [Ideal.ofBits, Ideal.ieee]
  norm_num
  exact_mod_cast (by norm_num : (16646144 : ℝ) * (1 / 131072) = 127)
theorem lo_val : Ideal.ofBits .f32 0xC2FE0000#32 = ((-127 : ℝ) : EReal) := by
  simp [Ideal.ofBits, Ideal.ieee]
  norm_num
  exact_mod_cast (by norm_num : (16646144 : ℝ) * (1 / 131072) = 127)
theorem bot_val : Ideal.ofBits .f32 0xFF800000#32 = (⊥ : EReal) := by
  simp [Ideal.ofBits, Ideal.ieee]

theorem hi_pos : (0 : EReal) < Ideal.ofBits .f32 0x42FE0000#32 := by rw [hi_val]; exact_mod_cast (by norm_num : (0 : ℝ) < 127)
theorem lo_neg : Ideal.ofBits .f32 0xC2FE0000#32 ≤ (0 : EReal) := by rw [lo_val]; exact_mod_cast (by norm_num : (-127 : ℝ) ≤ 0)

/-! ## A quotient, rounded and cut -/

theorem inv_nonneg {y : EReal} (h : 0 ≤ y) : 0 ≤ y⁻¹ := EReal.inv_nonneg_of_nonneg h

/-- A quotient by a positive number is the product with its inverse. -/
theorem div_pos_eq {x y : EReal} (h : 0 < y) : Ideal.div x y = x * y⁻¹ := by
  unfold Ideal.div; rw [if_neg h.ne']

theorem div_nonneg {x y : EReal} (hx : 0 ≤ x) (hy : 0 < y) : 0 ≤ Ideal.div x y := by
  rw [div_pos_eq hy]; exact mul_nonneg hx (inv_nonneg hy.le)

theorem round_nonneg {x : EReal} (h : 0 ≤ x) : 0 ≤ Ideal.liftRound Ideal.roundHalfEven x := by
  induction x with
  | bot => exact absurd h (by simp)
  | top => simp
  | coe r =>
    have hr : 0 ≤ r := by exact_mod_cast h
    have hf : 0 ≤ ⌊r⌋ := Int.floor_nonneg.2 hr
    have : 0 ≤ Ideal.roundHalfEven r := by
      unfold Ideal.roundHalfEven; dsimp only
      split_ifs <;> omega
    rw [Ideal.liftRound_coe]; exact_mod_cast this

/-- On nonnegative entries and scale, cutting the rounded quotient at zero or below zero makes no difference:
    where the scale is zero both products are, elsewhere the rounded quotient is not negative. -/
theorem cut_eq {y s b : EReal} (hy : 0 ≤ y) (hs : 0 ≤ s) (hb : b ≤ 0) (t : EReal) :
    min t (max 0 (Ideal.liftRound Ideal.roundHalfEven (Ideal.div y s))) * s
      = min t (max b (Ideal.liftRound Ideal.roundHalfEven (Ideal.div y s))) * s := by
  rcases hs.eq_or_lt with h | h
  · rw [← h, mul_zero, mul_zero]
  · have hr := round_nonneg (div_nonneg hy h)
    rw [max_eq_right hr, max_eq_right (hb.trans hr)]

/-! ## A maximum over a whole array -/

/-- A maximum reduction that leaves one entry is bounded exactly when every entry is. -/
theorem multiReduction_le {s t : Shape} {axes : List (Fin s.rank)} (src : FVec Ideal s .f32) (h : s.Reduces axes t)
    (ht : ∀ b, t.size b = 1) (hφ : FKind.Formats .f32) (hacc : 0xFF800000#32 = FKind.maximumf.neutral .f32 hφ) (j : t.Idx) (z : EReal) :
    multiReduction .maximumf axes t src 0xFF800000#32 h hφ hacc j ≤ z ↔ ∀ i, src i ≤ z := by
  show reduceFold h (max : EReal → EReal → EReal) (Ideal.ofBits .f32 0xFF800000#32) src j ≤ z ↔ _
  rw [reduceFold_eq_fold,
    Finset.filter_true_of_mem fun i _ => funext fun b => Fin.ext (by have := (h.drop i b).isLt; have := (j b).isLt; have := ht b; omega),
    Finset.fold_max_le]
  rw [bot_val]
  simp

/-- The same read out of a reshaped result. -/
theorem extract_le {s t u : Shape} {axes : List (Fin s.rank)} (src : FVec Ideal s .f32) (h : s.Reduces axes t)
    (ht : ∀ b, t.size b = 1) (hφ : FKind.Formats .f32) (hacc : 0xFF800000#32 = FKind.maximumf.neutral .f32 hφ)
    (hc : t.ShapeCasts u) (pos : Fin u.rank → ℕ) (hp : ∀ a, pos a < u.size a) (z : EReal) :
    extractAt pos (shapeCast u (multiReduction .maximumf axes t src 0xFF800000#32 h hφ hacc) hc) hp ≤ z ↔ ∀ i, src i ≤ z := by
  unfold extractAt shapeCast
  exact multiReduction_le src h ht hφ hacc _ z

/-- The reference's reduction over every axis likewise. -/
theorem hostReduce_le {s t u : Shape} {axes : List (Fin s.rank)} (src : FVec Ideal s .f32) (init : FVec Ideal u .f32) (hi : ∀ i, init i = (⊥ : EReal))
    (h : s.ReducesTo axes t) (hu : 0 < u.numel) (ht : ∀ b, t.size b = 1) (j : t.Idx) (z : EReal) :
    Host.reduce FloatOps.maximumf src init h hu j ≤ z ↔ ∀ i, src i ≤ z := by
  show Host.reduce (max : EReal → EReal → EReal) src init h hu j ≤ z ↔ _
  rw [Host.reduce_eq_fold,
    Finset.filter_true_of_mem fun i _ => funext fun b => Fin.ext (by have := (h.drop i b).isLt; have := (j b).isLt; have := ht b; omega),
    Finset.fold_max_le, hi]
  simp

/-! ## A sum over blocks -/

/-- A sum over 4096 positions is the sum over four blocks of 1024. -/
theorem sum_blocks (f : Fin 4096 → EReal) :
    ∑ d : Fin 4, ∑ k : Fin 1024, f ⟨1024 * d.val + k.val, by omega⟩ = ∑ K : Fin 4096, f K := by
  rw [← Finset.sum_product', ← Equiv.sum_comp (finProdFinEquiv (m := 4) (n := 1024)) f]
  refine Finset.sum_congr rfl fun p _ => congrArg f (Fin.ext ?_)
  show 1024 * p.1.val + p.2.val = p.2.val + 1024 * p.1.val
  omega

end Cert.Arith

end
-- ==== Proof.KernelIdeal.Value.lean ====
/-
  The kernel's values over the extended reals, entry by entry: `x` and `w` are whole arrays, device `c` holding
  block `c` of `x`'s columns and of `w`'s rows.
-/
module

public import proofs.«01_k».proof.Proof.KernelIdeal.Slots
public import proofs.«01_k».proof.Proof.Arith
public import Idealize.ShloMosaic.Lib.ValueLayout
public import Idealize.ShloMosaic.Lib.MatmulPlain
public import Idealize.ShloMosaic.Lib.Layout

@[expose] public section

noncomputable section

namespace Cert.KernelIdeal.Run

open Cert.KernelIdeal Cert.KernelIdeal.Gen Cert.Arith
open Idealize.ShloMosaic Idealize.ShloMosaic.ValueIdx
open Idealize.ShloMosaic.TcCoe
open scoped BigOperators

variable (x : (⟨2, ![4096, 4096]⟩ : Shape).Idx → EReal) (w : (⟨2, ![4096, 8192]⟩ : Shape).Idx → EReal)
variable (m : (ℓ : Loc nD τ sig) → Buf (Elt Ideal) ℓ)

/-- The devices' arguments are the blocks of `x` and `w`. -/
def Blocks : Prop := ∀ c : Dev nD,
  m ((c : Thread nD τ).loc main_arg0) = Layout.block ⟨2, ![4096, 1024]⟩ ⟨2, ![4096, 4096]⟩ 1 4 c x
  ∧ m ((c : Thread nD τ).loc main_arg1) = Layout.block ⟨2, ![1024, 8192]⟩ ⟨2, ![4096, 8192]⟩ 0 4 c w

/-- Row `i` of block `r`, and column `j` of channel `q`. -/
def at4 (r : Fin 4) (i : Fin 1024) : Fin 4096 := ⟨1024 * r.val + i.val, by omega⟩
def col (q : Fin 4) (j : Fin 2048) : Fin 8192 := ⟨4096 * (q.val % 2) + 2048 * (q.val / 2) + j.val, by omega⟩

/-- Device `d`'s share of an entry of the product. -/
def part (d r : Fin 4) (i : Fin 1024) (l : Fin 8192) : EReal := ∑ k : Fin 1024, x (ix2 (at4 r i) (at4 d k)) * w (ix2 (at4 d k) l)

/-- An entry of the product, cut at zero. -/
def prod (r : Fin 4096) (l : Fin 8192) : EReal := max (∑ k : Fin 4096, x (ix2 r k) * w (ix2 k l)) 0

theorem prod_nonneg (r : Fin 4096) (l : Fin 8192) : 0 ≤ prod x w r l := le_max_right _ _

variable {x w m}

theorem X_at (h : Blocks x w m) (d r : Fin 4) (i k : Fin 1024) : X m d r (ix2 i k) = x (ix2 (at4 r i) (at4 d k)) := by
  show m (((d : Dev nD) : Thread nD τ).loc main_arg0) ((xS r).view.emb (ix2 i k)) = _
  rw [(h d).1]
  show x _ = x _
  refine congrArg x (funext fun a => Fin.ext ?_)
  match a with
  | ⟨0, _⟩ => show 1024 * r.val + 1 * i.val = 1024 * r.val + i.val; omega
  | ⟨1, _⟩ => show d.val * 1024 + (0 + 1 * k.val) = 1024 * d.val + k.val; omega

theorem Wb_at (h : Blocks x w m) (d q : Fin 4) (k : Fin 1024) (j : Fin 2048) : Wb m d q (ix2 k j) = w (ix2 (at4 d k) (col q j)) := by
  show m (((d : Dev nD) : Thread nD τ).loc main_arg1) ((wS q).view.emb (ix2 k j)) = _
  rw [(h d).2]
  show w _ = w _
  refine congrArg w (funext fun a => Fin.ext ?_)
  match a with
  | ⟨0, _⟩ => show d.val * 1024 + (0 + 1 * k.val) = 1024 * d.val + k.val; omega
  | ⟨1, _⟩ => show 4096 * (q.val % 2) + 2048 * (q.val / 2) + 1 * j.val = 4096 * (q.val % 2) + 2048 * (q.val / 2) + j.val; omega

/-- The two operands' product at an entry. -/
theorem mm_at (h : Blocks x w m) (d r q : Fin 4) (i : Fin 1024) (j : Fin 2048) :
    matmul (F := Ideal) (φ₁ := .f32) (φ₂ := .f32) dot_S1024x1024_S1024x2048_S1024x2048_1_0_0_1_n_n none (X m d r) (Wb m d q) (constant S1024x2048 .f32 0x00000000#32) (ix2 i j)
      = part x w d r i (col q j) := by
  have e := Ideal.matmul_plain_apply (φ₁ := .f32) (φ₂ := .f32) none (X m d r) (Wb m d q) (constant S1024x2048 .f32 0x00000000#32) i j
  refine Eq.trans e ?_
  rw [show (constant S1024x2048 .f32 0x00000000#32 : FVec Ideal S1024x2048 .f32) (ix2 i j) = 0 from Ideal.ofBits_zero_f32, zero_add]
  exact Finset.sum_congr rfl fun k _ => by rw [X_at h, Wb_at h]

theorem dt_at (h : Blocks x w m) (d r q : Fin 4) (i : Fin 1024) (j : Fin 2048) :
    dt m d r q (ix3 (0 : Fin 1) i j) = part x w d r i (col q j) := by
  unfold dt k0_pay3
  exact (shapeCast_ab_1ab_apply _ _ 0 i j).trans (mm_at h d r q i j)

theorem snd0_at (h : Blocks x w m) (d q : Fin 4) (i : Fin 1024) (j : Fin 2048) :
    snd m 0 d q (ix2 i j) = part x w d (sc d q) i (col q j) := by
  show k0_pay1 (X m d (sc d q)) (Wb m d q) (ix2 i j) = _
  unfold k0_pay1
  exact (shapeCast_apply _ _ (ix2 i j) (ix2 i j) rfl).trans (mm_at h d (sc d q) q i j)

theorem sndS_at (h : Blocks x w m) (s : ℕ) (d q : Fin 4) (i : Fin 1024) (j : Fin 2048) :
    snd m (s + 1) d q (ix2 i j) = snd m s (src d q) q (ix2 i j) + part x w d (rc d q s) i (col q j) := by
  show k0_pay2 (snd m s (src d q) q) (dt m d (rc d q s) q) (ix2 i j) = _
  unfold k0_pay2
  refine (shapeCast_apply _ _ (ix2 i j) (ix2 i j) rfl).trans ?_
  show snd m s (src d q) q (ix2 i j) + shapeCast S1024x2048 (dt m d (rc d q s) q) shapeCasts_S1x1024x2048_S1024x2048 (ix2 i j) = _
  rw [← dt_at h]
  exact congrArg (_ + ·) (shapeCast_1ab_ab_apply _ _ i j)

/-- Every share a channel adds on its way to device `c` is of row block `c`, and every device adds one. -/
theorem ring_rows : ∀ c q : Fin 4, rc c q 2 = c ∧ rc (src c q) q 1 = c ∧ rc (src (src c q) q) q 0 = c ∧ sc (src (src (src c q) q) q) q = c := by
  decide
theorem ring_devs (f : Fin 4 → EReal) (c q : Fin 4) :
    f (src (src (src c q) q) q) + f (src (src c q) q) + f (src c q) + f c = ∑ d : Fin 4, f d := by
  have e : ∀ c q : Fin 4, (Finset.univ : Finset (Fin 4)).val = {src (src (src c q) q) q, src (src c q) q, src c q, c} := by decide
  unfold Finset.sum
  rw [e c q]
  simp [add_assoc]

theorem sum_part (c : Fin 4) (i : Fin 1024) (l : Fin 8192) :
    ∑ d : Fin 4, part x w d c i l = ∑ k : Fin 4096, x (ix2 (at4 c i) k) * w (ix2 k l) :=
  sum_blocks fun k => x (ix2 (at4 c i) k) * w (ix2 k l)

/-- A finished channel is the product's rows and columns, cut at zero. -/
theorem res_at (h : Blocks x w m) (c q : Fin 4) (i : Fin 1024) (j : Fin 2048) :
    res m c q (ix3 (0 : Fin 1) i j) = prod x w (at4 c i) (col q j) := by
  obtain ⟨h2, h1, h0, hs⟩ := ring_rows c q
  unfold res k0_pay8
  refine (shapeCast_ab_1ab_apply _ _ 0 i j).trans ?_
  unfold k0_pay7
  show max (snd m 2 (src c q) q (ix2 i j) + shapeCast S1024x2048 (dt m c (rc c q 2) q) shapeCasts_S1x1024x2048_S1024x2048 (ix2 i j))
    (Ideal.ofBits .f32 0x00000000#32) = _
  rw [Ideal.ofBits_zero_f32]
  unfold prod
  rw [← sum_part, ← ring_devs, show shapeCast S1024x2048 (dt m c (rc c q 2) q) shapeCasts_S1x1024x2048_S1024x2048 (ix2 i j)
    = part x w c (rc c q 2) i (col q j) from (shapeCast_1ab_ab_apply _ _ i j).trans (dt_at h c (rc c q 2) q i j),
    sndS_at h, sndS_at h, snd0_at h, h2, h1, h0, hs]

/-! ## The maximum -/

theorem idx3 (i : S1x1024x2048.Idx) : ∃ (a : Fin 1024) (b : Fin 2048), i = ix3 (0 : Fin 1) a b := by
  refine ⟨i 1, i 2, ?_⟩
  funext a
  match a with
  | ⟨0, _⟩ => exact Fin.ext (by have h0 : (i 0).val < 1 := (i 0).isLt; show (i 0).val = 0; omega)
  | ⟨1, _⟩ => rfl
  | ⟨2, _⟩ => rfl

theorem one_size : ∀ b, S1.size b = 1 := by decide

theorem pay9_le (h : Blocks x w m) (a : EReal) (c q : Fin 4) (z : EReal) :
    k0_pay9 (F := Ideal) a (snd m 2 (src c q) q) (dt m c (rc c q 2) q) ≤ z
      ↔ a ≤ z ∧ ∀ i j, prod x w (at4 c i) (col q j) ≤ z := by
  unfold k0_pay9
  refine max_le_iff.trans (and_congr_right fun _ => (extract_le (res m c q) _ one_size _ rfl _ _ _ z).trans ⟨fun H i j => ?_, fun H i => ?_⟩)
  · rw [← res_at h]; exact H _
  · obtain ⟨a, b, rfl⟩ := idx3 i
    rw [res_at h]; exact H _ _

/-- A device's own maximum bounds its rows of the product from above, and no more. -/
theorem mfold_le (h : Blocks x w m) (c : Fin 4) (z : EReal) :
    mfold m c 4 ≤ z ↔ 0 ≤ z ∧ ∀ q i j, prod x w (at4 c i) (col q j) ≤ z := by
  show k0_pay9 (k0_pay9 (k0_pay9 (k0_pay9 (Ideal.ofBits .f32 0x00000000#32) _ _) _ _) _ _) _ _ ≤ z ↔ _
  rw [pay9_le h, pay9_le h, pay9_le h, pay9_le h, Ideal.ofBits_zero_f32]
  constructor
  · rintro ⟨⟨⟨⟨hz, a0⟩, a1⟩, a2⟩, a3⟩
    refine ⟨hz, fun q => ?_⟩
    match q with
    | 0 => exact a0
    | 1 => exact a1
    | 2 => exact a2
    | 3 => exact a3
  · rintro ⟨hz, a⟩
    exact ⟨⟨⟨⟨hz, a _⟩, a _⟩, a _⟩, a _⟩

/-- The maximum a device works out from its own, `a`, and the three received, `v`. -/
def gm (a : EReal) (v : FVec Ideal S3x8x128 .f32) : EReal :=
  Scalar.maximumf (F := Ideal) (φ := .f32) a (extractAt ![0, 0, 0, 0] (shapeCast S1x1x1x1 (multiReduction .maximumf [1, 2, 3] S1
    (shapeCast S1x3x8x128 v shapeCasts_S3x8x128_S1x3x8x128) 0xFF800000#32 reduces_S1x3x8x128_S1 (.inl rfl) rfl) shapeCasts_S1_S1x1x1x1)
    inpos_S1x1x1x1_p0_0_0_0)

theorem gm_le (a : EReal) (v : FVec Ideal S3x8x128 .f32) (z : EReal) :
    gm a v ≤ z ↔ a ≤ z ∧ ∀ k l n, v (ix3 k l n) ≤ z := by
  unfold gm
  refine max_le_iff.trans (and_congr_right fun _ => (extract_le _ _ one_size _ rfl _ _ _ z).trans ⟨fun H k l n => ?_, fun H i => ?_⟩)
  · exact (shapeCast_abc_1abc_apply v shapeCasts_S3x8x128_S1x3x8x128 0 k l n).symm.trans_le (H _)
  · rw [eq_ix4 i]
    exact (shapeCast_abc_1abc_apply v shapeCasts_S3x8x128_S1x3x8x128 (i 0) (i 1) (i 2) (i 3)).trans_le (H _ _ _)

def gmax (m : (ℓ : Loc nD τ sig) → Buf (Elt Ideal) ℓ) (c : Fin 4) : EReal := gm (mfold m c 4) (am3 m c)

theorem pay10_at (v : EReal) (i : S8x128.Idx) : k0_pay10 (F := Ideal) v i = v := by unfold k0_pay10; rfl

theorem am3_at (c : Fin 4) (k : Fin 3) (a : Fin 8) (b : Fin 128) : am3 m c (ix3 k a b) = mfold m (up c (k.val + 1)) 4 :=
  pay10_at (mfold m (up c (k.val + 1)) 4) (ix2 a b)

theorem up_all (c d : Fin 4) : d = c ∨ ∃ k : Fin 3, d = up c (k.val + 1) := by revert c d; decide

theorem gmax_le (h : Blocks x w m) (c : Fin 4) (z : EReal) : gmax m c ≤ z ↔ 0 ≤ z ∧ ∀ r l, prod x w r l ≤ z := by
  unfold gmax
  rw [gm_le]
  constructor
  · rintro ⟨h0, h3⟩
    have hd : ∀ d, mfold m d 4 ≤ z := fun d => by
      rcases up_all c d with rfl | ⟨k, rfl⟩
      · exact h0
      · rw [← am3_at c k 0 0]; exact h3 k 0 0
    refine ⟨((mfold_le h c z).1 h0).1, fun r l => ?_⟩
    have hp := ((mfold_le h ⟨r.val / 1024, by omega⟩ z).1 (hd _)).2 ⟨l.val / 4096 + 2 * (l.val % 4096 / 2048), by omega⟩
      ⟨r.val % 1024, by omega⟩ ⟨l.val % 2048, by omega⟩
    have er : at4 ⟨r.val / 1024, by omega⟩ ⟨r.val % 1024, by omega⟩ = r := Fin.ext (by
      show 1024 * (r.val / 1024) + r.val % 1024 = r.val; omega)
    have el : col ⟨l.val / 4096 + 2 * (l.val % 4096 / 2048), by omega⟩ ⟨l.val % 2048, by omega⟩ = l := Fin.ext (by
      show 4096 * ((l.val / 4096 + 2 * (l.val % 4096 / 2048)) % 2) + 2048 * ((l.val / 4096 + 2 * (l.val % 4096 / 2048)) / 2)
        + l.val % 2048 = l.val
      omega)
    rwa [er, el] at hp
  · rintro ⟨hz, ha⟩
    have hd : ∀ d, mfold m d 4 ≤ z := fun d => (mfold_le h d z).2 ⟨hz, fun _ _ _ => ha _ _⟩
    exact ⟨hd c, fun k a b => (am3_at c k a b).trans_le (hd _)⟩

/-! ## The result -/

/-- Cut, round and scale one entry of the product. -/
def quant (b g y : EReal) : EReal :=
  min (Ideal.ofBits .f32 0x42FE0000#32) (max b (Ideal.liftRound Ideal.roundHalfEven (Ideal.div y (Ideal.div g (Ideal.ofBits .f32 0x42FE0000#32)))))
    * Ideal.div g (Ideal.ofBits .f32 0x42FE0000#32)

theorem pay11_at (a : EReal) (v : FVec Ideal S3x8x128 .f32) (y : FVec Ideal S1x1024x2048 .f32) (i : Fin 1024) (j : Fin 2048) :
    k0_pay11 (F := Ideal) a v y (ix3 (0 : Fin 1) i j) = quant 0 (gm a v) (y (ix3 (0 : Fin 1) i j)) := by
  unfold k0_pay11
  refine (shapeCast_ab_1ab_apply _ _ 0 i j).trans ?_
  rw [← shapeCast_1ab_ab_apply y shapeCasts_S1x1024x2048_S1024x2048 i j, ← Ideal.ofBits_zero_f32]
  rfl

theorem fin_at (h : Blocks x w m) (c q : Fin 4) (i : Fin 1024) (j : Fin 2048) :
    fin m c q (ix3 (0 : Fin 1) i j) = quant 0 (gmax m c) (prod x w (at4 c i) (col q j)) := by
  rw [← res_at h]
  exact pay11_at _ _ _ i j

/-- Device `c`'s result at an entry. -/
theorem Out_at (h : Blocks x w m) (c : Fin 4) (i : Fin 1024) (l : Fin 8192) :
    Out m c (ix2 i l) = quant 0 (gmax m c) (prod x w (at4 c i) l) := by
  have el : col ⟨l.val / 4096 + 2 * (l.val % 4096 / 2048), by omega⟩ ⟨l.val % 4096 % 2048, by omega⟩ = l := Fin.ext (by
    show 4096 * ((l.val / 4096 + 2 * (l.val % 4096 / 2048)) % 2) + 2048 * ((l.val / 4096 + 2 * (l.val % 4096 / 2048)) / 2)
      + l.val % 4096 % 2048 = l.val
    omega)
  refine Eq.trans ?_ ((fin_at h c ⟨l.val / 4096 + 2 * (l.val % 4096 / 2048), by omega⟩ i ⟨l.val % 4096 % 2048, by omega⟩).trans (by rw [el]))
  show fin m c _ _ = fin m c _ _
  refine congrArg (fin m c _) (funext fun a => ?_)
  match a with
  | ⟨0, _⟩ => rfl
  | ⟨1, _⟩ => rfl
  | ⟨2, _⟩ => rfl

/-- The same against any maximum bounded exactly when the product is, and the reference's lower cut. -/
theorem Out_quant (h : Blocks x w m) (g : EReal) (hg : ∀ z, g ≤ z ↔ ∀ r l, prod x w r l ≤ z) (c : Fin 4) (i : Fin 1024) (l : Fin 8192) :
    Out m c (ix2 i l) = quant (Ideal.ofBits .f32 0xC2FE0000#32) g (prod x w (at4 c i) l) := by
  have eg : gmax m c = g := eq_of_forall_ge_iff fun z => by
    rw [gmax_le h, hg]
    exact ⟨fun H => H.2, fun H => ⟨(prod_nonneg x w 0 0).trans (H 0 0), H⟩⟩
  have hg0 : 0 ≤ g := (prod_nonneg x w 0 0).trans ((hg g).1 le_rfl 0 0)
  rw [Out_at h, eg]
  exact cut_eq (prod_nonneg x w _ _) (div_nonneg hg0 hi_pos) lo_neg _

end Cert.KernelIdeal.Run

end
-- ==== Proof.Reference.lean ====
/-
  The reference's value entry by entry, and the kernel's beside it: on blocks of the same arrays every device
  ends with its block of rows of the reference's result.
-/
module

public import proofs.«01_k».proof.Proof.KernelIdeal.Value
public import proofs.«01_k».proof.Proof.Gen.ReferenceIdeal
public import Idealize.ShloMosaic.Lib.StackMember
public import Idealize.ShloMosaic.Lib.IdealHost

@[expose] public section

noncomputable section

namespace Cert.ReferenceIdeal.Whole

open Cert.ReferenceIdeal Cert.ReferenceIdeal.Gen Cert.Arith
open Idealize.ShloMosaic Idealize.ShloMosaic.ValueIdx
open Idealize.ShloMosaic.TcCoe
open Cert.KernelIdeal.Run (prod prod_nonneg quant Blocks Out Out_quant at4)
open scoped BigOperators

variable (x : FVec Ideal S4096x4096 .f32) (w : FVec Ideal S4096x8192 .f32)

/-- The product cut at zero, its largest magnitude, the scale, and the result. -/
def Y : FVec Ideal S4096x8192 .f32 :=
  maximumf (Host.dotGeneral dot_S4096x4096_S4096x8192_S4096x8192_1_0_0_1_n_n none x w)
    (broadcastInDim S4096x8192 ![] bcast_S_S4096x8192 (constant S_ .f32 0x00000000#32))
def top (y : FVec Ideal S4096x8192 .f32) : FVec Ideal S_ .f32 :=
  Host.reduce FloatOps.maximumf (Host.absf y) (constant S_ .f32 0xFF800000#32) reducesTo_S4096x8192_S_d0_1 h_S_
def scale (g : FVec Ideal S_ .f32) : FVec Ideal S4096x8192 .f32 :=
  broadcastInDim S4096x8192 ![] bcast_S_S4096x8192 (Host.divf g (constant S_ .f32 0x42FE0000#32))
def cut (y s : FVec Ideal S4096x8192 .f32) : FVec Ideal S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32))) (Host.roundeven (Host.divf y s)))) s
def result : FVec Ideal S4096x8192 .f32 := cut (Y x w) (scale (top (Y x w)))

theorem Y_at (r : Fin 4096) (l : Fin 8192) : Y x w (ix2 r l) = prod x w r l := by
  unfold Y prod
  have e := StackMember.dotGeneral_plain_apply (φ₁ := .f32) (φ₂ := .f32) none x w r l
  show max (Host.dotGeneral dot_S4096x4096_S4096x8192_S4096x8192_1_0_0_1_n_n none x w (ix2 r l)) (Ideal.ofBits .f32 0x00000000#32) = _
  rw [Ideal.ofBits_zero_f32]
  exact congrArg (max · 0) e

/-- On entries that are not negative the largest magnitude is the largest entry. -/
theorem top_le (y : FVec Ideal S4096x8192 .f32) (hy : ∀ i, (0 : EReal) ≤ y i) (z : EReal) :
    top y ix0 ≤ z ↔ ∀ i, y i ≤ z := by
  unfold top
  rw [hostReduce_le (Host.absf y) (constant S_ .f32 0xFF800000#32) (fun _ => bot_val) _ _ (fun b => b.elim0)]
  refine forall_congr' fun i => ?_
  show max (y i) (-(y i)) ≤ z ↔ _
  rw [max_eq_left ((EReal.neg_le_neg_iff.2 (hy i)).trans (by simpa using hy i))]

theorem cut_at (y : FVec Ideal S4096x8192 .f32) (g : FVec Ideal S_ .f32) (i : S4096x8192.Idx) :
    cut y (scale g) i = quant (Ideal.ofBits .f32 0xC2FE0000#32) (g ix0) (y i) := by
  have es : scale g i = Ideal.div (g ix0) (Ideal.ofBits .f32 0x42FE0000#32) := by
    unfold scale; exact broadcastInDim_scalar_apply _ _ i
  unfold cut quant
  rw [← es]
  rfl

/-- Every device's result is its block of rows of the reference's. -/
theorem kernel_eq (m : (ℓ : Loc Cert.KernelIdeal.nD Cert.KernelIdeal.τ Cert.KernelIdeal.sig) → Buf (Elt Ideal) ℓ)
    (h : Blocks x w m) (c : Fin 4) : Out m c = Layout.block ⟨2, ![1024, 8192]⟩ ⟨2, ![4096, 8192]⟩ 0 4 c (result x w) := by
  funext i
  obtain ⟨a, b, rfl⟩ : ∃ (a : Fin 1024) (b : Fin 8192), i = ix2 a b := ⟨i 0, i 1, eq_ix2 i⟩
  have hY : ∀ i, (0 : EReal) ≤ Y x w i := fun i => by
    obtain ⟨r, l, rfl⟩ : ∃ (r : Fin 4096) (l : Fin 8192), i = ix2 r l := ⟨i 0, i 1, eq_ix2 i⟩
    rw [Y_at]; exact prod_nonneg x w r l
  rw [Out_quant h (top (Y x w) ix0) (fun z => (top_le _ hY z).trans ⟨fun H r l => ?_, fun H i => ?_⟩), ← Y_at]
  · unfold result
    rw [Layout.block_apply, cut_at]
    refine congrArg (quant _ _) (congrArg (Y x w) (funext fun e => Fin.ext ?_))
    match e with
    | ⟨0, _⟩ => show 1024 * c.val + a.val = c.val * 1024 + a.val; omega
    | ⟨1, _⟩ => rfl
  · rw [← Y_at]; exact H _
  · obtain ⟨r, l, rfl⟩ : ∃ (r : Fin 4096) (l : Fin 8192), i = ix2 r l := ⟨i 0, i 1, eq_ix2 i⟩
    rw [Y_at]; exact H r l

end Cert.ReferenceIdeal.Whole

end
-- ==== Proof.lean ====
/-
  The claims, assembled: the kernel as printed and the kernel over the extended reals by the runs of
  Proof/Kernel and Proof/KernelIdeal (one development, generic in the float instance), the reference by its
  run, and the two results compared by Proof/Reference.
-/
module

public import proofs.«01_k».proof.Defs
public import proofs.«01_k».proof.Proof.Gen.ReferenceIdeal.Run
public import proofs.«01_k».proof.Proof.Kernel.Launch
public import proofs.«01_k».proof.Proof.KernelIdeal.Launch
public import proofs.«01_k».proof.Proof.Reference

@[expose] public section

noncomputable section

namespace Cert.Proof

open Idealize.ShloMosaic Idealize.SL.Sem

theorem frame_kernel : quiescent_Kernel (hKernel := Cert.Kernel.Gen.facts) := fun m g _ =>
  (θ_run Cert.Kernel.defs _ _).mono (fun r h => ⟨fun c => (h.1 c).2, h.2⟩) (Cert.Kernel.Run.run_main (F := Bits) m g)

theorem frame_ideal : quiescent_KernelIdeal (hKernelIdeal := Cert.KernelIdeal.Gen.facts) := fun m g _ =>
  (θ_run Cert.KernelIdeal.defs _ _).mono (fun r h => ⟨fun c => (h.1 c).2, h.2⟩) (Cert.KernelIdeal.Run.run_main (F := Ideal) m g)

theorem frame_reference : quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem values : algebraic_KernelIdeal_ReferenceIdeal (hKernelIdeal := Cert.KernelIdeal.Gen.facts) (hReferenceIdeal := Cert.ReferenceIdeal.Gen.facts) :=
  fun m g m' g' _ h =>
  ⟨Cert.ReferenceIdeal.Whole.result (m' ((0 : Dev Cert.ReferenceIdeal.nD).tc.loc Cert.ReferenceIdeal.main_arg0))
      (m' ((0 : Dev Cert.ReferenceIdeal.nD).tc.loc Cert.ReferenceIdeal.main_arg1)),
    (θ_run Cert.KernelIdeal.defs _ _).mono
      (fun r e c => ⟨(e.1 c).1.trans (Cert.ReferenceIdeal.Whole.kernel_eq _ _ m h c), (e.1 c).2⟩)
      (Cert.KernelIdeal.Run.run_main (F := Ideal) m g),
    (θ_run Cert.ReferenceIdeal.defs _ _).mono (fun r e => e 0) (Cert.ReferenceIdeal.Value.run (F := Ideal) m' g')⟩

theorem claim : Cert.Claim :=
  ⟨Cert.Kernel.Gen.facts, Cert.KernelIdeal.Gen.facts, Cert.ReferenceIdeal.Gen.facts, frame_kernel, frame_ideal, frame_reference, trivial, values⟩

end Cert.Proof

end
